-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_RefInAIdeal (m : (ℓ : Loc Cert.RefInAIdeal.nD Cert.RefInAIdeal.τ Cert.RefInAIdeal.sig) → Buf (Elt Ideal) ℓ) : Prop :=
  True

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_RefInCIdeal (m : (ℓ : Loc Cert.RefInCIdeal.nD Cert.RefInCIdeal.τ Cert.RefInCIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_RefPeerQIdeal (m : (ℓ : Loc Cert.RefPeerQIdeal.nD Cert.RefPeerQIdeal.τ Cert.RefPeerQIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_RefNormInIdeal (m : (ℓ : Loc Cert.RefNormInIdeal.nD Cert.RefNormInIdeal.τ Cert.RefNormInIdeal.sig) → Buf (Elt Ideal) ℓ) : Prop :=
  True

def Pre_NormAtt (m : (ℓ : Loc Cert.NormAtt.nD Cert.NormAtt.τ Cert.NormAtt.sig) → Buf (Elt Bits) ℓ) : Prop :=
  True

def Pre_NormAttIdeal (m : (ℓ : Loc Cert.NormAttIdeal.nD Cert.NormAttIdeal.τ Cert.NormAttIdeal.sig) → Buf (Elt Ideal) ℓ) : Prop :=
  True

def Pre_RefNormAttIdeal (m : (ℓ : Loc Cert.RefNormAttIdeal.nD Cert.RefNormAttIdeal.τ Cert.RefNormAttIdeal.sig) → Buf (Elt Ideal) ℓ) : Prop :=
  True

def Pre_NormNext (m : (ℓ : Loc Cert.NormNext.nD Cert.NormNext.τ Cert.NormNext.sig) → Buf (Elt Bits) ℓ) : Prop :=
  True

def Pre_NormNextIdeal (m : (ℓ : Loc Cert.NormNextIdeal.nD Cert.NormNextIdeal.τ Cert.NormNextIdeal.sig) → Buf (Elt Ideal) ℓ) : Prop :=
  True

def Pre_RefNormNextIdeal (m : (ℓ : Loc Cert.RefNormNextIdeal.nD Cert.RefNormNextIdeal.τ Cert.RefNormNextIdeal.sig) → Buf (Elt Ideal) ℓ) : Prop :=
  True

def Pre_NormFinal (m : (ℓ : Loc Cert.NormFinal.nD Cert.NormFinal.τ Cert.NormFinal.sig) → Buf (Elt Bits) ℓ) : Prop :=
  True

def Pre_NormFinalIdeal (m : (ℓ : Loc Cert.NormFinalIdeal.nD Cert.NormFinalIdeal.τ Cert.NormFinalIdeal.sig) → Buf (Elt Ideal) ℓ) : Prop :=
  True

def Pre_RefNormFinalIdeal (m : (ℓ : Loc Cert.RefNormFinalIdeal.nD Cert.RefNormFinalIdeal.τ Cert.RefNormFinalIdeal.sig) → Buf (Elt Ideal) ℓ) : Prop :=
  True

def Pre_S5Post (m : (ℓ : Loc Cert.S5Post.nD Cert.S5Post.τ Cert.S5Post.sig) → Buf (Elt Bits) ℓ) : Prop :=
  True

def Pre_S5PostIdeal (m : (ℓ : Loc Cert.S5PostIdeal.nD Cert.S5PostIdeal.τ Cert.S5PostIdeal.sig) → Buf (Elt Ideal) ℓ) : Prop :=
  True

def Pre_RefS5PostIdeal (m : (ℓ : Loc Cert.RefS5PostIdeal.nD Cert.RefS5PostIdeal.τ Cert.RefS5PostIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_RefInAIdeal [hRefInAIdeal : Cert.RefInAIdeal.Facts] : Prop :=
  ∀ (m : (ℓ : Loc Cert.RefInAIdeal.nD Cert.RefInAIdeal.τ Cert.RefInAIdeal.sig) → Buf (Elt Ideal) ℓ) (g : Dev Cert.RefInAIdeal.nD → PrngReg), Pre_RefInAIdeal m →
    θ_run (Cert.RefInAIdeal.defs (F := Ideal)) (onTc (τ := Cert.RefInAIdeal.τ) (Cert.RefInAIdeal.main (F := Ideal))) ⟨m, fun _ => 0, g⟩ (fun r => (∀ c : Dev Cert.RefInAIdeal.nD,
      r.2.mem ((c.tc : Thread Cert.RefInAIdeal.nD Cert.RefInAIdeal.τ).loc Cert.RefInAIdeal.main_arg0) = m ((c.tc : Thread Cert.RefInAIdeal.nD Cert.RefInAIdeal.τ).loc Cert.RefInAIdeal.main_arg0)
      ∧ r.2.mem ((c.tc : Thread Cert.RefInAIdeal.nD Cert.RefInAIdeal.τ).loc Cert.RefInAIdeal.main_arg1) = m ((c.tc : Thread Cert.RefInAIdeal.nD Cert.RefInAIdeal.τ).loc Cert.RefInAIdeal.main_arg1))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ r.2.sem = fun _ => 0)

def quiescent_RefInCIdeal [hRefInCIdeal : Cert.RefInCIdeal.Facts] : Prop :=
  ∀ (m : (ℓ : Loc Cert.RefInCIdeal.nD Cert.RefInCIdeal.τ Cert.RefInCIdeal.sig) → Buf (Elt Ideal) ℓ) (g : Dev Cert.RefInCIdeal.nD → PrngReg), Pre_RefInCIdeal m →
    θ_run (Cert.RefInCIdeal.defs (F := Ideal)) (onTc (τ := Cert.RefInCIdeal.τ) (Cert.RefInCIdeal.main (F := Ideal))) ⟨m, fun _ => 0, g⟩ (fun r => (∀ c : Dev Cert.RefInCIdeal.nD,
      r.2.mem ((c.tc : Thread Cert.RefInCIdeal.nD Cert.RefInCIdeal.τ).loc Cert.RefInCIdeal.main_arg0) = m ((c.tc : Thread Cert.RefInCIdeal.nD Cert.RefInCIdeal.τ).loc Cert.RefInCIdeal.main_arg0)
      ∧ r.2.mem ((c.tc : Thread Cert.RefInCIdeal.nD Cert.RefInCIdeal.τ).loc Cert.RefInCIdeal.main_arg1) = m ((c.tc : Thread Cert.RefInCIdeal.nD Cert.RefInCIdeal.τ).loc Cert.RefInCIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1))
      ∧ r.2.sem = fun _ => 0)

def quiescent_RefPeerQIdeal [hRefPeerQIdeal : Cert.RefPeerQIdeal.Facts] : Prop :=
  ∀ (m : (ℓ : Loc Cert.RefPeerQIdeal.nD Cert.RefPeerQIdeal.τ Cert.RefPeerQIdeal.sig) → Buf (Elt Ideal) ℓ) (g : Dev Cert.RefPeerQIdeal.nD → PrngReg), Pre_RefPeerQIdeal m →
    θ_run (Cert.RefPeerQIdeal.defs (F := Ideal)) (onTc (τ := Cert.RefPeerQIdeal.τ) (Cert.RefPeerQIdeal.main (F := Ideal))) ⟨m, fun _ => 0, g⟩ (fun r => (∀ c : Dev Cert.RefPeerQIdeal.nD,
      r.2.mem ((c.tc : Thread Cert.RefPeerQIdeal.nD Cert.RefPeerQIdeal.τ).loc Cert.RefPeerQIdeal.main_arg0) = m ((c.tc : Thread Cert.RefPeerQIdeal.nD Cert.RefPeerQIdeal.τ).loc Cert.RefPeerQIdeal.main_arg0)
      ∧ r.2.mem ((c.tc : Thread Cert.RefPeerQIdeal.nD Cert.RefPeerQIdeal.τ).loc Cert.RefPeerQIdeal.main_arg1) = m ((c.tc : Thread Cert.RefPeerQIdeal.nD Cert.RefPeerQIdeal.τ).loc Cert.RefPeerQIdeal.main_arg1))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_RefNormInIdeal [hRefNormInIdeal : Cert.RefNormInIdeal.Facts] : Prop :=
  ∀ (m : (ℓ : Loc Cert.RefNormInIdeal.nD Cert.RefNormInIdeal.τ Cert.RefNormInIdeal.sig) → Buf (Elt Ideal) ℓ) (g : Dev Cert.RefNormInIdeal.nD → PrngReg), Pre_RefNormInIdeal m →
    θ_run (Cert.RefNormInIdeal.defs (F := Ideal)) (onTc (τ := Cert.RefNormInIdeal.τ) (Cert.RefNormInIdeal.main (F := Ideal))) ⟨m, fun _ => 0, g⟩ (fun r => (∀ c : Dev Cert.RefNormInIdeal.nD,
      r.2.mem ((c.tc : Thread Cert.RefNormInIdeal.nD Cert.RefNormInIdeal.τ).loc Cert.RefNormInIdeal.main_arg0) = m ((c.tc : Thread Cert.RefNormInIdeal.nD Cert.RefNormInIdeal.τ).loc Cert.RefNormInIdeal.main_arg0)
      ∧ r.2.mem ((c.tc : Thread Cert.RefNormInIdeal.nD Cert.RefNormInIdeal.τ).loc Cert.RefNormInIdeal.main_arg1) = m ((c.tc : Thread Cert.RefNormInIdeal.nD Cert.RefNormInIdeal.τ).loc Cert.RefNormInIdeal.main_arg1))
      ∧ r.2.sem = fun _ => 0)

def quiescent_NormAtt [hNormAtt : Cert.NormAtt.Facts] : Prop :=
  ∀ (m : (ℓ : Loc Cert.NormAtt.nD Cert.NormAtt.τ Cert.NormAtt.sig) → Buf (Elt Bits) ℓ) (g : Dev Cert.NormAtt.nD → PrngReg), Pre_NormAtt m →
    θ_run (Cert.NormAtt.defs (F := Bits)) (onTc (τ := Cert.NormAtt.τ) (Cert.NormAtt.main (F := Bits))) ⟨m, fun _ => 0, g⟩ (fun r => (∀ c : Dev Cert.NormAtt.nD,
      r.2.mem ((c.tc : Thread Cert.NormAtt.nD Cert.NormAtt.τ).loc Cert.NormAtt.main_arg0) = m ((c.tc : Thread Cert.NormAtt.nD Cert.NormAtt.τ).loc Cert.NormAtt.main_arg0)
      ∧ r.2.mem ((c.tc : Thread Cert.NormAtt.nD Cert.NormAtt.τ).loc Cert.NormAtt.main_arg1) = m ((c.tc : Thread Cert.NormAtt.nD Cert.NormAtt.τ).loc Cert.NormAtt.main_arg1))
      ∧ r.2.sem = fun _ => 0)

def quiescent_NormAttIdeal [hNormAttIdeal : Cert.NormAttIdeal.Facts] : Prop :=
  ∀ (m : (ℓ : Loc Cert.NormAttIdeal.nD Cert.NormAttIdeal.τ Cert.NormAttIdeal.sig) → Buf (Elt Ideal) ℓ) (g : Dev Cert.NormAttIdeal.nD → PrngReg), Pre_NormAttIdeal m →
    θ_run (Cert.NormAttIdeal.defs (F := Ideal)) (onTc (τ := Cert.NormAttIdeal.τ) (Cert.NormAttIdeal.main (F := Ideal))) ⟨m, fun _ => 0, g⟩ (fun r => (∀ c : Dev Cert.NormAttIdeal.nD,
      r.2.mem ((c.tc : Thread Cert.NormAttIdeal.nD Cert.NormAttIdeal.τ).loc Cert.NormAttIdeal.main_arg0) = m ((c.tc : Thread Cert.NormAttIdeal.nD Cert.NormAttIdeal.τ).loc Cert.NormAttIdeal.main_arg0)
      ∧ r.2.mem ((c.tc : Thread Cert.NormAttIdeal.nD Cert.NormAttIdeal.τ).loc Cert.NormAttIdeal.main_arg1) = m ((c.tc : Thread Cert.NormAttIdeal.nD Cert.NormAttIdeal.τ).loc Cert.NormAttIdeal.main_arg1))
      ∧ r.2.sem = fun _ => 0)

def quiescent_RefNormAttIdeal [hRefNormAttIdeal : Cert.RefNormAttIdeal.Facts] : Prop :=
  ∀ (m : (ℓ : Loc Cert.RefNormAttIdeal.nD Cert.RefNormAttIdeal.τ Cert.RefNormAttIdeal.sig) → Buf (Elt Ideal) ℓ) (g : Dev Cert.RefNormAttIdeal.nD → PrngReg), Pre_RefNormAttIdeal m →
    θ_run (Cert.RefNormAttIdeal.defs (F := Ideal)) (onTc (τ := Cert.RefNormAttIdeal.τ) (Cert.RefNormAttIdeal.main (F := Ideal))) ⟨m, fun _ => 0, g⟩ (fun r => (∀ c : Dev Cert.RefNormAttIdeal.nD,
      r.2.mem ((c.tc : Thread Cert.RefNormAttIdeal.nD Cert.RefNormAttIdeal.τ).loc Cert.RefNormAttIdeal.main_arg0) = m ((c.tc : Thread Cert.RefNormAttIdeal.nD Cert.RefNormAttIdeal.τ).loc Cert.RefNormAttIdeal.main_arg0)
      ∧ r.2.mem ((c.tc : Thread Cert.RefNormAttIdeal.nD Cert.RefNormAttIdeal.τ).loc Cert.RefNormAttIdeal.main_arg1) = m ((c.tc : Thread Cert.RefNormAttIdeal.nD Cert.RefNormAttIdeal.τ).loc Cert.RefNormAttIdeal.main_arg1))
      ∧ r.2.sem = fun _ => 0)

def quiescent_NormNext [hNormNext : Cert.NormNext.Facts] : Prop :=
  ∀ (m : (ℓ : Loc Cert.NormNext.nD Cert.NormNext.τ Cert.NormNext.sig) → Buf (Elt Bits) ℓ) (g : Dev Cert.NormNext.nD → PrngReg), Pre_NormNext m →
    θ_run (Cert.NormNext.defs (F := Bits)) (onTc (τ := Cert.NormNext.τ) (Cert.NormNext.main (F := Bits))) ⟨m, fun _ => 0, g⟩ (fun r => (∀ c : Dev Cert.NormNext.nD,
      r.2.mem ((c.tc : Thread Cert.NormNext.nD Cert.NormNext.τ).loc Cert.NormNext.main_arg0) = m ((c.tc : Thread Cert.NormNext.nD Cert.NormNext.τ).loc Cert.NormNext.main_arg0)
      ∧ r.2.mem ((c.tc : Thread Cert.NormNext.nD Cert.NormNext.τ).loc Cert.NormNext.main_arg1) = m ((c.tc : Thread Cert.NormNext.nD Cert.NormNext.τ).loc Cert.NormNext.main_arg1)
      ∧ r.2.mem ((c.tc : Thread Cert.NormNext.nD Cert.NormNext.τ).loc Cert.NormNext.main_arg2) = m ((c.tc : Thread Cert.NormNext.nD Cert.NormNext.τ).loc Cert.NormNext.main_arg2))
      ∧ r.2.sem = fun _ => 0)

def quiescent_NormNextIdeal [hNormNextIdeal : Cert.NormNextIdeal.Facts] : Prop :=
  ∀ (m : (ℓ : Loc Cert.NormNextIdeal.nD Cert.NormNextIdeal.τ Cert.NormNextIdeal.sig) → Buf (Elt Ideal) ℓ) (g : Dev Cert.NormNextIdeal.nD → PrngReg), Pre_NormNextIdeal m →
    θ_run (Cert.NormNextIdeal.defs (F := Ideal)) (onTc (τ := Cert.NormNextIdeal.τ) (Cert.NormNextIdeal.main (F := Ideal))) ⟨m, fun _ => 0, g⟩ (fun r => (∀ c : Dev Cert.NormNextIdeal.nD,
      r.2.mem ((c.tc : Thread Cert.NormNextIdeal.nD Cert.NormNextIdeal.τ).loc Cert.NormNextIdeal.main_arg0) = m ((c.tc : Thread Cert.NormNextIdeal.nD Cert.NormNextIdeal.τ).loc Cert.NormNextIdeal.main_arg0)
      ∧ r.2.mem ((c.tc : Thread Cert.NormNextIdeal.nD Cert.NormNextIdeal.τ).loc Cert.NormNextIdeal.main_arg1) = m ((c.tc : Thread Cert.NormNextIdeal.nD Cert.NormNextIdeal.τ).loc Cert.NormNextIdeal.main_arg1)
      ∧ r.2.mem ((c.tc : Thread Cert.NormNextIdeal.nD Cert.NormNextIdeal.τ).loc Cert.NormNextIdeal.main_arg2) = m ((c.tc : Thread Cert.NormNextIdeal.nD Cert.NormNextIdeal.τ).loc Cert.NormNextIdeal.main_arg2))
      ∧ r.2.sem = fun _ => 0)

def quiescent_RefNormNextIdeal [hRefNormNextIdeal : Cert.RefNormNextIdeal.Facts] : Prop :=
  ∀ (m : (ℓ : Loc Cert.RefNormNextIdeal.nD Cert.RefNormNextIdeal.τ Cert.RefNormNextIdeal.sig) → Buf (Elt Ideal) ℓ) (g : Dev Cert.RefNormNextIdeal.nD → PrngReg), Pre_RefNormNextIdeal m →
    θ_run (Cert.RefNormNextIdeal.defs (F := Ideal)) (onTc (τ := Cert.RefNormNextIdeal.τ) (Cert.RefNormNextIdeal.main (F := Ideal))) ⟨m, fun _ => 0, g⟩ (fun r => (∀ c : Dev Cert.RefNormNextIdeal.nD,
      r.2.mem ((c.tc : Thread Cert.RefNormNextIdeal.nD Cert.RefNormNextIdeal.τ).loc Cert.RefNormNextIdeal.main_arg0) = m ((c.tc : Thread Cert.RefNormNextIdeal.nD Cert.RefNormNextIdeal.τ).loc Cert.RefNormNextIdeal.main_arg0)
      ∧ r.2.mem ((c.tc : Thread Cert.RefNormNextIdeal.nD Cert.RefNormNextIdeal.τ).loc Cert.RefNormNextIdeal.main_arg1) = m ((c.tc : Thread Cert.RefNormNextIdeal.nD Cert.RefNormNextIdeal.τ).loc Cert.RefNormNextIdeal.main_arg1)
      ∧ r.2.mem ((c.tc : Thread Cert.RefNormNextIdeal.nD Cert.RefNormNextIdeal.τ).loc Cert.RefNormNextIdeal.main_arg2) = m ((c.tc : Thread Cert.RefNormNextIdeal.nD Cert.RefNormNextIdeal.τ).loc Cert.RefNormNextIdeal.main_arg2))
      ∧ r.2.sem = fun _ => 0)

def quiescent_NormFinal [hNormFinal : Cert.NormFinal.Facts] : Prop :=
  ∀ (m : (ℓ : Loc Cert.NormFinal.nD Cert.NormFinal.τ Cert.NormFinal.sig) → Buf (Elt Bits) ℓ) (g : Dev Cert.NormFinal.nD → PrngReg), Pre_NormFinal m →
    θ_run (Cert.NormFinal.defs (F := Bits)) (onTc (τ := Cert.NormFinal.τ) (Cert.NormFinal.main (F := Bits))) ⟨m, fun _ => 0, g⟩ (fun r => (∀ c : Dev Cert.NormFinal.nD,
      r.2.mem ((c.tc : Thread Cert.NormFinal.nD Cert.NormFinal.τ).loc Cert.NormFinal.main_arg0) = m ((c.tc : Thread Cert.NormFinal.nD Cert.NormFinal.τ).loc Cert.NormFinal.main_arg0)
      ∧ r.2.mem ((c.tc : Thread Cert.NormFinal.nD Cert.NormFinal.τ).loc Cert.NormFinal.main_arg1) = m ((c.tc : Thread Cert.NormFinal.nD Cert.NormFinal.τ).loc Cert.NormFinal.main_arg1)
      ∧ r.2.mem ((c.tc : Thread Cert.NormFinal.nD Cert.NormFinal.τ).loc Cert.NormFinal.main_arg2) = m ((c.tc : Thread Cert.NormFinal.nD Cert.NormFinal.τ).loc Cert.NormFinal.main_arg2))
      ∧ r.2.sem = fun _ => 0)

def quiescent_NormFinalIdeal [hNormFinalIdeal : Cert.NormFinalIdeal.Facts] : Prop :=
  ∀ (m : (ℓ : Loc Cert.NormFinalIdeal.nD Cert.NormFinalIdeal.τ Cert.NormFinalIdeal.sig) → Buf (Elt Ideal) ℓ) (g : Dev Cert.NormFinalIdeal.nD → PrngReg), Pre_NormFinalIdeal m →
    θ_run (Cert.NormFinalIdeal.defs (F := Ideal)) (onTc (τ := Cert.NormFinalIdeal.τ) (Cert.NormFinalIdeal.main (F := Ideal))) ⟨m, fun _ => 0, g⟩ (fun r => (∀ c : Dev Cert.NormFinalIdeal.nD,
      r.2.mem ((c.tc : Thread Cert.NormFinalIdeal.nD Cert.NormFinalIdeal.τ).loc Cert.NormFinalIdeal.main_arg0) = m ((c.tc : Thread Cert.NormFinalIdeal.nD Cert.NormFinalIdeal.τ).loc Cert.NormFinalIdeal.main_arg0)
      ∧ r.2.mem ((c.tc : Thread Cert.NormFinalIdeal.nD Cert.NormFinalIdeal.τ).loc Cert.NormFinalIdeal.main_arg1) = m ((c.tc : Thread Cert.NormFinalIdeal.nD Cert.NormFinalIdeal.τ).loc Cert.NormFinalIdeal.main_arg1)
      ∧ r.2.mem ((c.tc : Thread Cert.NormFinalIdeal.nD Cert.NormFinalIdeal.τ).loc Cert.NormFinalIdeal.main_arg2) = m ((c.tc : Thread Cert.NormFinalIdeal.nD Cert.NormFinalIdeal.τ).loc Cert.NormFinalIdeal.main_arg2))
      ∧ r.2.sem = fun _ => 0)

def quiescent_RefNormFinalIdeal [hRefNormFinalIdeal : Cert.RefNormFinalIdeal.Facts] : Prop :=
  ∀ (m : (ℓ : Loc Cert.RefNormFinalIdeal.nD Cert.RefNormFinalIdeal.τ Cert.RefNormFinalIdeal.sig) → Buf (Elt Ideal) ℓ) (g : Dev Cert.RefNormFinalIdeal.nD → PrngReg), Pre_RefNormFinalIdeal m →
    θ_run (Cert.RefNormFinalIdeal.defs (F := Ideal)) (onTc (τ := Cert.RefNormFinalIdeal.τ) (Cert.RefNormFinalIdeal.main (F := Ideal))) ⟨m, fun _ => 0, g⟩ (fun r => (∀ c : Dev Cert.RefNormFinalIdeal.nD,
      r.2.mem ((c.tc : Thread Cert.RefNormFinalIdeal.nD Cert.RefNormFinalIdeal.τ).loc Cert.RefNormFinalIdeal.main_arg0) = m ((c.tc : Thread Cert.RefNormFinalIdeal.nD Cert.RefNormFinalIdeal.τ).loc Cert.RefNormFinalIdeal.main_arg0)
      ∧ r.2.mem ((c.tc : Thread Cert.RefNormFinalIdeal.nD Cert.RefNormFinalIdeal.τ).loc Cert.RefNormFinalIdeal.main_arg1) = m ((c.tc : Thread Cert.RefNormFinalIdeal.nD Cert.RefNormFinalIdeal.τ).loc Cert.RefNormFinalIdeal.main_arg1)
      ∧ r.2.mem ((c.tc : Thread Cert.RefNormFinalIdeal.nD Cert.RefNormFinalIdeal.τ).loc Cert.RefNormFinalIdeal.main_arg2) = m ((c.tc : Thread Cert.RefNormFinalIdeal.nD Cert.RefNormFinalIdeal.τ).loc Cert.RefNormFinalIdeal.main_arg2))
      ∧ r.2.sem = fun _ => 0)

def quiescent_S5Post [hS5Post : Cert.S5Post.Facts] : Prop :=
  ∀ (m : (ℓ : Loc Cert.S5Post.nD Cert.S5Post.τ Cert.S5Post.sig) → Buf (Elt Bits) ℓ) (g : Dev Cert.S5Post.nD → PrngReg), Pre_S5Post m →
    θ_run (Cert.S5Post.defs (F := Bits)) (onTc (τ := Cert.S5Post.τ) (Cert.S5Post.main (F := Bits))) ⟨m, fun _ => 0, g⟩ (fun r => (∀ c : Dev Cert.S5Post.nD,
      r.2.mem ((c.tc : Thread Cert.S5Post.nD Cert.S5Post.τ).loc Cert.S5Post.main_arg0) = m ((c.tc : Thread Cert.S5Post.nD Cert.S5Post.τ).loc Cert.S5Post.main_arg0)
      ∧ r.2.mem ((c.tc : Thread Cert.S5Post.nD Cert.S5Post.τ).loc Cert.S5Post.main_arg1) = m ((c.tc : Thread Cert.S5Post.nD Cert.S5Post.τ).loc Cert.S5Post.main_arg1)
      ∧ r.2.mem ((c.tc : Thread Cert.S5Post.nD Cert.S5Post.τ).loc Cert.S5Post.main_arg2) = m ((c.tc : Thread Cert.S5Post.nD Cert.S5Post.τ).loc Cert.S5Post.main_arg2)
      ∧ r.2.mem ((c.tc : Thread Cert.S5Post.nD Cert.S5Post.τ).loc Cert.S5Post.main_arg3) = m ((c.tc : Thread Cert.S5Post.nD Cert.S5Post.τ).loc Cert.S5Post.main_arg3)
      ∧ r.2.mem ((c.tc : Thread Cert.S5Post.nD Cert.S5Post.τ).loc Cert.S5Post.main_arg4) = m ((c.tc : Thread Cert.S5Post.nD Cert.S5Post.τ).loc Cert.S5Post.main_arg4))
      ∧ r.2.sem = fun _ => 0)

def quiescent_S5PostIdeal [hS5PostIdeal : Cert.S5PostIdeal.Facts] : Prop :=
  ∀ (m : (ℓ : Loc Cert.S5PostIdeal.nD Cert.S5PostIdeal.τ Cert.S5PostIdeal.sig) → Buf (Elt Ideal) ℓ) (g : Dev Cert.S5PostIdeal.nD → PrngReg), Pre_S5PostIdeal m →
    θ_run (Cert.S5PostIdeal.defs (F := Ideal)) (onTc (τ := Cert.S5PostIdeal.τ) (Cert.S5PostIdeal.main (F := Ideal))) ⟨m, fun _ => 0, g⟩ (fun r => (∀ c : Dev Cert.S5PostIdeal.nD,
      r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
      ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
      ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
      ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3)
      ∧ r.2.mem ((c.tc : Thread Cert.S5PostIdeal.nD Cert.S5PostIdeal.τ).loc Cert.S5PostIdeal.main_arg4) = m ((c.tc : Thread Cert.S5PostIdeal.nD Cert.S5PostIdeal.τ).loc Cert.S5PostIdeal.main_arg4))
      ∧ r.2.sem = fun _ => 0)

def quiescent_RefS5PostIdeal [hRefS5PostIdeal : Cert.RefS5PostIdeal.Facts] : Prop :=
  ∀ (m : (ℓ : Loc Cert.RefS5PostIdeal.nD Cert.RefS5PostIdeal.τ Cert.RefS5PostIdeal.sig) → Buf (Elt Ideal) ℓ) (g : Dev Cert.RefS5PostIdeal.nD → PrngReg), Pre_RefS5PostIdeal m →
    θ_run (Cert.RefS5PostIdeal.defs (F := Ideal)) (onTc (τ := Cert.RefS5PostIdeal.τ) (Cert.RefS5PostIdeal.main (F := Ideal))) ⟨m, fun _ => 0, g⟩ (fun r => (∀ c : Dev Cert.RefS5PostIdeal.nD,
      r.2.mem ((c.tc : Thread Cert.RefS5PostIdeal.nD Cert.RefS5PostIdeal.τ).loc Cert.RefS5PostIdeal.main_arg0) = m ((c.tc : Thread Cert.RefS5PostIdeal.nD Cert.RefS5PostIdeal.τ).loc Cert.RefS5PostIdeal.main_arg0)
      ∧ r.2.mem ((c.tc : Thread Cert.RefS5PostIdeal.nD Cert.RefS5PostIdeal.τ).loc Cert.RefS5PostIdeal.main_arg1) = m ((c.tc : Thread Cert.RefS5PostIdeal.nD Cert.RefS5PostIdeal.τ).loc Cert.RefS5PostIdeal.main_arg1)
      ∧ r.2.mem ((c.tc : Thread Cert.RefS5PostIdeal.nD Cert.RefS5PostIdeal.τ).loc Cert.RefS5PostIdeal.main_arg2) = m ((c.tc : Thread Cert.RefS5PostIdeal.nD Cert.RefS5PostIdeal.τ).loc Cert.RefS5PostIdeal.main_arg2)
      ∧ r.2.mem ((c.tc : Thread Cert.RefS5PostIdeal.nD Cert.RefS5PostIdeal.τ).loc Cert.RefS5PostIdeal.main_arg3) = m ((c.tc : Thread Cert.RefS5PostIdeal.nD Cert.RefS5PostIdeal.τ).loc Cert.RefS5PostIdeal.main_arg3)
      ∧ r.2.mem ((c.tc : Thread Cert.RefS5PostIdeal.nD Cert.RefS5PostIdeal.τ).loc Cert.RefS5PostIdeal.main_arg4) = m ((c.tc : Thread Cert.RefS5PostIdeal.nD Cert.RefS5PostIdeal.τ).loc Cert.RefS5PostIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InA_InAIdeal : Prop :=
  True

def algebraic_InAIdeal_RefInAIdeal [hInAIdeal : Cert.InAIdeal.Facts] [hRefInAIdeal : Cert.RefInAIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.RefInAIdeal.nD Cert.RefInAIdeal.τ Cert.RefInAIdeal.sig) → Buf (Elt Ideal) ℓ) (g' : Dev Cert.RefInAIdeal.nD → PrngReg), Pre_InAIdeal m →
    (∀ c : Dev Cert.InAIdeal.nD,
      m' ((c.tc : Thread Cert.RefInAIdeal.nD Cert.RefInAIdeal.τ).loc Cert.RefInAIdeal.main_arg0) = m ((c.tc : Thread Cert.InAIdeal.nD Cert.InAIdeal.τ).loc Cert.InAIdeal.main_arg0)
      ∧ m' ((c.tc : Thread Cert.RefInAIdeal.nD Cert.RefInAIdeal.τ).loc Cert.RefInAIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v2)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v2) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.RefInAIdeal.defs (F := Ideal)) (onTc (τ := Cert.RefInAIdeal.τ) (Cert.RefInAIdeal.main (F := Ideal))) ⟨m', fun _ => 0, g'⟩ (fun r => ∀ c : Dev Cert.RefInAIdeal.nD,
          r.2.mem ((c.tc : Thread Cert.RefInAIdeal.nD Cert.RefInAIdeal.τ).loc Cert.RefInAIdeal.main_v2) = v0 c
          ∧ r.2.mem ((c.tc : Thread Cert.RefInAIdeal.nD Cert.RefInAIdeal.τ).loc Cert.RefInAIdeal.main_arg0) = m' ((c.tc : Thread Cert.RefInAIdeal.nD Cert.RefInAIdeal.τ).loc Cert.RefInAIdeal.main_arg0)
          ∧ r.2.mem ((c.tc : Thread Cert.RefInAIdeal.nD Cert.RefInAIdeal.τ).loc Cert.RefInAIdeal.main_arg1) = m' ((c.tc : Thread Cert.RefInAIdeal.nD Cert.RefInAIdeal.τ).loc Cert.RefInAIdeal.main_arg1))

def preserves_InC_InCIdeal : Prop :=
  True

def algebraic_InCIdeal_RefInCIdeal [hInCIdeal : Cert.InCIdeal.Facts] [hRefInCIdeal : Cert.RefInCIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.RefInCIdeal.nD Cert.RefInCIdeal.τ Cert.RefInCIdeal.sig) → Buf (Elt Ideal) ℓ) (g' : Dev Cert.RefInCIdeal.nD → PrngReg), Pre_InCIdeal m →
    (∀ c : Dev Cert.InCIdeal.nD,
      m' ((c.tc : Thread Cert.RefInCIdeal.nD Cert.RefInCIdeal.τ).loc Cert.RefInCIdeal.main_arg0) = m ((c.tc : Thread Cert.InCIdeal.nD Cert.InCIdeal.τ).loc Cert.InCIdeal.main_arg0)
      ∧ m' ((c.tc : Thread Cert.RefInCIdeal.nD Cert.RefInCIdeal.τ).loc Cert.RefInCIdeal.main_arg1) = m ((c.tc : Thread Cert.InCIdeal.nD Cert.InCIdeal.τ).loc Cert.InCIdeal.main_arg1)) →
    ∃ (v0 : (c : Dev Cert.InCIdeal.nD) → Buf (Elt Ideal) ((c.tc : Thread Cert.InCIdeal.nD Cert.InCIdeal.τ).loc Cert.InCIdeal.main_v2)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v2) = v0 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ θ_run (Cert.RefInCIdeal.defs (F := Ideal)) (onTc (τ := Cert.RefInCIdeal.τ) (Cert.RefInCIdeal.main (F := Ideal))) ⟨m', fun _ => 0, g'⟩ (fun r => ∀ c : Dev Cert.RefInCIdeal.nD,
          r.2.mem ((c.tc : Thread Cert.RefInCIdeal.nD Cert.RefInCIdeal.τ).loc Cert.RefInCIdeal.main_v3) = v0 c
          ∧ r.2.mem ((c.tc : Thread Cert.RefInCIdeal.nD Cert.RefInCIdeal.τ).loc Cert.RefInCIdeal.main_arg0) = m' ((c.tc : Thread Cert.RefInCIdeal.nD Cert.RefInCIdeal.τ).loc Cert.RefInCIdeal.main_arg0)
          ∧ r.2.mem ((c.tc : Thread Cert.RefInCIdeal.nD Cert.RefInCIdeal.τ).loc Cert.RefInCIdeal.main_arg1) = m' ((c.tc : Thread Cert.RefInCIdeal.nD Cert.RefInCIdeal.τ).loc Cert.RefInCIdeal.main_arg1))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v2) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2))

def preserves_PeerQ_PeerQIdeal : Prop :=
  True

def algebraic_PeerQIdeal_RefPeerQIdeal [hPeerQIdeal : Cert.PeerQIdeal.Facts] [hRefPeerQIdeal : Cert.RefPeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.RefPeerQIdeal.nD Cert.RefPeerQIdeal.τ Cert.RefPeerQIdeal.sig) → Buf (Elt Ideal) ℓ) (g' : Dev Cert.RefPeerQIdeal.nD → PrngReg), Pre_PeerQIdeal m →
    (∀ c : Dev Cert.PeerQIdeal.nD,
      m' ((c.tc : Thread Cert.RefPeerQIdeal.nD Cert.RefPeerQIdeal.τ).loc Cert.RefPeerQIdeal.main_arg0) = m ((c.tc : Thread Cert.PeerQIdeal.nD Cert.PeerQIdeal.τ).loc Cert.PeerQIdeal.main_arg0)
      ∧ m' ((c.tc : Thread Cert.RefPeerQIdeal.nD Cert.RefPeerQIdeal.τ).loc Cert.RefPeerQIdeal.main_arg1) = m ((c.tc : Thread Cert.PeerQIdeal.nD Cert.PeerQIdeal.τ).loc Cert.PeerQIdeal.main_arg1)) →
    ∃ (v0 : (c : Dev Cert.PeerQIdeal.nD) → Buf (Elt Ideal) ((c.tc : Thread Cert.PeerQIdeal.nD Cert.PeerQIdeal.τ).loc Cert.PeerQIdeal.main_v1)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v1) = v0 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1))
      ∧ θ_run (Cert.RefPeerQIdeal.defs (F := Ideal)) (onTc (τ := Cert.RefPeerQIdeal.τ) (Cert.RefPeerQIdeal.main (F := Ideal))) ⟨m', fun _ => 0, g'⟩ (fun r => ∀ c : Dev Cert.RefPeerQIdeal.nD,
          r.2.mem ((c.tc : Thread Cert.RefPeerQIdeal.nD Cert.RefPeerQIdeal.τ).loc Cert.RefPeerQIdeal.main_v2) = v0 c
          ∧ r.2.mem ((c.tc : Thread Cert.RefPeerQIdeal.nD Cert.RefPeerQIdeal.τ).loc Cert.RefPeerQIdeal.main_arg0) = m' ((c.tc : Thread Cert.RefPeerQIdeal.nD Cert.RefPeerQIdeal.τ).loc Cert.RefPeerQIdeal.main_arg0)
          ∧ r.2.mem ((c.tc : Thread Cert.RefPeerQIdeal.nD Cert.RefPeerQIdeal.τ).loc Cert.RefPeerQIdeal.main_arg1) = m' ((c.tc : Thread Cert.RefPeerQIdeal.nD Cert.RefPeerQIdeal.τ).loc Cert.RefPeerQIdeal.main_arg1))

def preserves_NormIn_NormInIdeal : Prop :=
  True

def algebraic_NormInIdeal_RefNormInIdeal [hNormInIdeal : Cert.NormInIdeal.Facts] [hRefNormInIdeal : Cert.RefNormInIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.RefNormInIdeal.nD Cert.RefNormInIdeal.τ Cert.RefNormInIdeal.sig) → Buf (Elt Ideal) ℓ) (g' : Dev Cert.RefNormInIdeal.nD → PrngReg), Pre_NormInIdeal m →
    (∀ c : Dev Cert.NormInIdeal.nD,
      m' ((c.tc : Thread Cert.RefNormInIdeal.nD Cert.RefNormInIdeal.τ).loc Cert.RefNormInIdeal.main_arg0) = m ((c.tc : Thread Cert.NormInIdeal.nD Cert.NormInIdeal.τ).loc Cert.NormInIdeal.main_arg0)
      ∧ m' ((c.tc : Thread Cert.RefNormInIdeal.nD Cert.RefNormInIdeal.τ).loc Cert.RefNormInIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v1) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.RefNormInIdeal.defs (F := Ideal)) (onTc (τ := Cert.RefNormInIdeal.τ) (Cert.RefNormInIdeal.main (F := Ideal))) ⟨m', fun _ => 0, g'⟩ (fun r => ∀ c : Dev Cert.RefNormInIdeal.nD,
          r.2.mem ((c.tc : Thread Cert.RefNormInIdeal.nD Cert.RefNormInIdeal.τ).loc Cert.RefNormInIdeal.main_v13) = v0 c
          ∧ r.2.mem ((c.tc : Thread Cert.RefNormInIdeal.nD Cert.RefNormInIdeal.τ).loc Cert.RefNormInIdeal.main_arg0) = m' ((c.tc : Thread Cert.RefNormInIdeal.nD Cert.RefNormInIdeal.τ).loc Cert.RefNormInIdeal.main_arg0)
          ∧ r.2.mem ((c.tc : Thread Cert.RefNormInIdeal.nD Cert.RefNormInIdeal.τ).loc Cert.RefNormInIdeal.main_arg1) = m' ((c.tc : Thread Cert.RefNormInIdeal.nD Cert.RefNormInIdeal.τ).loc Cert.RefNormInIdeal.main_arg1))

def preserves_NormAtt_NormAttIdeal : Prop :=
  True

def algebraic_NormAttIdeal_RefNormAttIdeal [hNormAttIdeal : Cert.NormAttIdeal.Facts] [hRefNormAttIdeal : Cert.RefNormAttIdeal.Facts] : Prop :=
  ∀ (m : (ℓ : Loc Cert.NormAttIdeal.nD Cert.NormAttIdeal.τ Cert.NormAttIdeal.sig) → Buf (Elt Ideal) ℓ) (g : Dev Cert.NormAttIdeal.nD → PrngReg)
    (m' : (ℓ : Loc Cert.RefNormAttIdeal.nD Cert.RefNormAttIdeal.τ Cert.RefNormAttIdeal.sig) → Buf (Elt Ideal) ℓ) (g' : Dev Cert.RefNormAttIdeal.nD → PrngReg), Pre_NormAttIdeal m →
    (∀ c : Dev Cert.NormAttIdeal.nD,
      m' ((c.tc : Thread Cert.RefNormAttIdeal.nD Cert.RefNormAttIdeal.τ).loc Cert.RefNormAttIdeal.main_arg0) = m ((c.tc : Thread Cert.NormAttIdeal.nD Cert.NormAttIdeal.τ).loc Cert.NormAttIdeal.main_arg0)
      ∧ m' ((c.tc : Thread Cert.RefNormAttIdeal.nD Cert.RefNormAttIdeal.τ).loc Cert.RefNormAttIdeal.main_arg1) = m ((c.tc : Thread Cert.NormAttIdeal.nD Cert.NormAttIdeal.τ).loc Cert.NormAttIdeal.main_arg1)) →
    ∃ (v0 : (c : Dev Cert.NormAttIdeal.nD) → Buf (Elt Ideal) ((c.tc : Thread Cert.NormAttIdeal.nD Cert.NormAttIdeal.τ).loc Cert.NormAttIdeal.main_v1)),
      θ_run (Cert.NormAttIdeal.defs (F := Ideal)) (onTc (τ := Cert.NormAttIdeal.τ) (Cert.NormAttIdeal.main (F := Ideal))) ⟨m, fun _ => 0, g⟩ (fun r => ∀ c : Dev Cert.NormAttIdeal.nD,
          r.2.mem ((c.tc : Thread Cert.NormAttIdeal.nD Cert.NormAttIdeal.τ).loc Cert.NormAttIdeal.main_v1) = v0 c
          ∧ r.2.mem ((c.tc : Thread Cert.NormAttIdeal.nD Cert.NormAttIdeal.τ).loc Cert.NormAttIdeal.main_arg0) = m ((c.tc : Thread Cert.NormAttIdeal.nD Cert.NormAttIdeal.τ).loc Cert.NormAttIdeal.main_arg0)
          ∧ r.2.mem ((c.tc : Thread Cert.NormAttIdeal.nD Cert.NormAttIdeal.τ).loc Cert.NormAttIdeal.main_arg1) = m ((c.tc : Thread Cert.NormAttIdeal.nD Cert.NormAttIdeal.τ).loc Cert.NormAttIdeal.main_arg1))
      ∧ θ_run (Cert.RefNormAttIdeal.defs (F := Ideal)) (onTc (τ := Cert.RefNormAttIdeal.τ) (Cert.RefNormAttIdeal.main (F := Ideal))) ⟨m', fun _ => 0, g'⟩ (fun r => ∀ c : Dev Cert.RefNormAttIdeal.nD,
          r.2.mem ((c.tc : Thread Cert.RefNormAttIdeal.nD Cert.RefNormAttIdeal.τ).loc Cert.RefNormAttIdeal.main_v13) = v0 c
          ∧ r.2.mem ((c.tc : Thread Cert.RefNormAttIdeal.nD Cert.RefNormAttIdeal.τ).loc Cert.RefNormAttIdeal.main_arg0) = m' ((c.tc : Thread Cert.RefNormAttIdeal.nD Cert.RefNormAttIdeal.τ).loc Cert.RefNormAttIdeal.main_arg0)
          ∧ r.2.mem ((c.tc : Thread Cert.RefNormAttIdeal.nD Cert.RefNormAttIdeal.τ).loc Cert.RefNormAttIdeal.main_arg1) = m' ((c.tc : Thread Cert.RefNormAttIdeal.nD Cert.RefNormAttIdeal.τ).loc Cert.RefNormAttIdeal.main_arg1))

def preserves_NormNext_NormNextIdeal : Prop :=
  True

def algebraic_NormNextIdeal_RefNormNextIdeal [hNormNextIdeal : Cert.NormNextIdeal.Facts] [hRefNormNextIdeal : Cert.RefNormNextIdeal.Facts] : Prop :=
  ∀ (m : (ℓ : Loc Cert.NormNextIdeal.nD Cert.NormNextIdeal.τ Cert.NormNextIdeal.sig) → Buf (Elt Ideal) ℓ) (g : Dev Cert.NormNextIdeal.nD → PrngReg)
    (m' : (ℓ : Loc Cert.RefNormNextIdeal.nD Cert.RefNormNextIdeal.τ Cert.RefNormNextIdeal.sig) → Buf (Elt Ideal) ℓ) (g' : Dev Cert.RefNormNextIdeal.nD → PrngReg), Pre_NormNextIdeal m →
    (∀ c : Dev Cert.NormNextIdeal.nD,
      m' ((c.tc : Thread Cert.RefNormNextIdeal.nD Cert.RefNormNextIdeal.τ).loc Cert.RefNormNextIdeal.main_arg0) = m ((c.tc : Thread Cert.NormNextIdeal.nD Cert.NormNextIdeal.τ).loc Cert.NormNextIdeal.main_arg0)
      ∧ m' ((c.tc : Thread Cert.RefNormNextIdeal.nD Cert.RefNormNextIdeal.τ).loc Cert.RefNormNextIdeal.main_arg1) = m ((c.tc : Thread Cert.NormNextIdeal.nD Cert.NormNextIdeal.τ).loc Cert.NormNextIdeal.main_arg1)
      ∧ m' ((c.tc : Thread Cert.RefNormNextIdeal.nD Cert.RefNormNextIdeal.τ).loc Cert.RefNormNextIdeal.main_arg2) = m ((c.tc : Thread Cert.NormNextIdeal.nD Cert.NormNextIdeal.τ).loc Cert.NormNextIdeal.main_arg2)) →
    ∃ (v0 : (c : Dev Cert.NormNextIdeal.nD) → Buf (Elt Ideal) ((c.tc : Thread Cert.NormNextIdeal.nD Cert.NormNextIdeal.τ).loc Cert.NormNextIdeal.main_v1_0)) (v1 : (c : Dev Cert.NormNextIdeal.nD) → Buf (Elt Ideal) ((c.tc : Thread Cert.NormNextIdeal.nD Cert.NormNextIdeal.τ).loc Cert.NormNextIdeal.main_v1_1)),
      θ_run (Cert.NormNextIdeal.defs (F := Ideal)) (onTc (τ := Cert.NormNextIdeal.τ) (Cert.NormNextIdeal.main (F := Ideal))) ⟨m, fun _ => 0, g⟩ (fun r => ∀ c : Dev Cert.NormNextIdeal.nD,
          r.2.mem ((c.tc : Thread Cert.NormNextIdeal.nD Cert.NormNextIdeal.τ).loc Cert.NormNextIdeal.main_v1_0) = v0 c
          ∧ r.2.mem ((c.tc : Thread Cert.NormNextIdeal.nD Cert.NormNextIdeal.τ).loc Cert.NormNextIdeal.main_v1_1) = v1 c
          ∧ r.2.mem ((c.tc : Thread Cert.NormNextIdeal.nD Cert.NormNextIdeal.τ).loc Cert.NormNextIdeal.main_arg0) = m ((c.tc : Thread Cert.NormNextIdeal.nD Cert.NormNextIdeal.τ).loc Cert.NormNextIdeal.main_arg0)
          ∧ r.2.mem ((c.tc : Thread Cert.NormNextIdeal.nD Cert.NormNextIdeal.τ).loc Cert.NormNextIdeal.main_arg1) = m ((c.tc : Thread Cert.NormNextIdeal.nD Cert.NormNextIdeal.τ).loc Cert.NormNextIdeal.main_arg1)
          ∧ r.2.mem ((c.tc : Thread Cert.NormNextIdeal.nD Cert.NormNextIdeal.τ).loc Cert.NormNextIdeal.main_arg2) = m ((c.tc : Thread Cert.NormNextIdeal.nD Cert.NormNextIdeal.τ).loc Cert.NormNextIdeal.main_arg2))
      ∧ θ_run (Cert.RefNormNextIdeal.defs (F := Ideal)) (onTc (τ := Cert.RefNormNextIdeal.τ) (Cert.RefNormNextIdeal.main (F := Ideal))) ⟨m', fun _ => 0, g'⟩ (fun r => ∀ c : Dev Cert.RefNormNextIdeal.nD,
          r.2.mem ((c.tc : Thread Cert.RefNormNextIdeal.nD Cert.RefNormNextIdeal.τ).loc Cert.RefNormNextIdeal.main_v0) = v0 c
          ∧ r.2.mem ((c.tc : Thread Cert.RefNormNextIdeal.nD Cert.RefNormNextIdeal.τ).loc Cert.RefNormNextIdeal.main_v14) = v1 c
          ∧ r.2.mem ((c.tc : Thread Cert.RefNormNextIdeal.nD Cert.RefNormNextIdeal.τ).loc Cert.RefNormNextIdeal.main_arg0) = m' ((c.tc : Thread Cert.RefNormNextIdeal.nD Cert.RefNormNextIdeal.τ).loc Cert.RefNormNextIdeal.main_arg0)
          ∧ r.2.mem ((c.tc : Thread Cert.RefNormNextIdeal.nD Cert.RefNormNextIdeal.τ).loc Cert.RefNormNextIdeal.main_arg1) = m' ((c.tc : Thread Cert.RefNormNextIdeal.nD Cert.RefNormNextIdeal.τ).loc Cert.RefNormNextIdeal.main_arg1)
          ∧ r.2.mem ((c.tc : Thread Cert.RefNormNextIdeal.nD Cert.RefNormNextIdeal.τ).loc Cert.RefNormNextIdeal.main_arg2) = m' ((c.tc : Thread Cert.RefNormNextIdeal.nD Cert.RefNormNextIdeal.τ).loc Cert.RefNormNextIdeal.main_arg2))

def preserves_NormFinal_NormFinalIdeal : Prop :=
  True

def algebraic_NormFinalIdeal_RefNormFinalIdeal [hNormFinalIdeal : Cert.NormFinalIdeal.Facts] [hRefNormFinalIdeal : Cert.RefNormFinalIdeal.Facts] : Prop :=
  ∀ (m : (ℓ : Loc Cert.NormFinalIdeal.nD Cert.NormFinalIdeal.τ Cert.NormFinalIdeal.sig) → Buf (Elt Ideal) ℓ) (g : Dev Cert.NormFinalIdeal.nD → PrngReg)
    (m' : (ℓ : Loc Cert.RefNormFinalIdeal.nD Cert.RefNormFinalIdeal.τ Cert.RefNormFinalIdeal.sig) → Buf (Elt Ideal) ℓ) (g' : Dev Cert.RefNormFinalIdeal.nD → PrngReg), Pre_NormFinalIdeal m →
    (∀ c : Dev Cert.NormFinalIdeal.nD,
      m' ((c.tc : Thread Cert.RefNormFinalIdeal.nD Cert.RefNormFinalIdeal.τ).loc Cert.RefNormFinalIdeal.main_arg0) = m ((c.tc : Thread Cert.NormFinalIdeal.nD Cert.NormFinalIdeal.τ).loc Cert.NormFinalIdeal.main_arg0)
      ∧ m' ((c.tc : Thread Cert.RefNormFinalIdeal.nD Cert.RefNormFinalIdeal.τ).loc Cert.RefNormFinalIdeal.main_arg1) = m ((c.tc : Thread Cert.NormFinalIdeal.nD Cert.NormFinalIdeal.τ).loc Cert.NormFinalIdeal.main_arg1)
      ∧ m' ((c.tc : Thread Cert.RefNormFinalIdeal.nD Cert.RefNormFinalIdeal.τ).loc Cert.RefNormFinalIdeal.main_arg2) = m ((c.tc : Thread Cert.NormFinalIdeal.nD Cert.NormFinalIdeal.τ).loc Cert.NormFinalIdeal.main_arg2)) →
    ∃ (v0 : (c : Dev Cert.NormFinalIdeal.nD) → Buf (Elt Ideal) ((c.tc : Thread Cert.NormFinalIdeal.nD Cert.NormFinalIdeal.τ).loc Cert.NormFinalIdeal.main_v1)),
      θ_run (Cert.NormFinalIdeal.defs (F := Ideal)) (onTc (τ := Cert.NormFinalIdeal.τ) (Cert.NormFinalIdeal.main (F := Ideal))) ⟨m, fun _ => 0, g⟩ (fun r => ∀ c : Dev Cert.NormFinalIdeal.nD,
          r.2.mem ((c.tc : Thread Cert.NormFinalIdeal.nD Cert.NormFinalIdeal.τ).loc Cert.NormFinalIdeal.main_v1) = v0 c
          ∧ r.2.mem ((c.tc : Thread Cert.NormFinalIdeal.nD Cert.NormFinalIdeal.τ).loc Cert.NormFinalIdeal.main_arg0) = m ((c.tc : Thread Cert.NormFinalIdeal.nD Cert.NormFinalIdeal.τ).loc Cert.NormFinalIdeal.main_arg0)
          ∧ r.2.mem ((c.tc : Thread Cert.NormFinalIdeal.nD Cert.NormFinalIdeal.τ).loc Cert.NormFinalIdeal.main_arg1) = m ((c.tc : Thread Cert.NormFinalIdeal.nD Cert.NormFinalIdeal.τ).loc Cert.NormFinalIdeal.main_arg1)
          ∧ r.2.mem ((c.tc : Thread Cert.NormFinalIdeal.nD Cert.NormFinalIdeal.τ).loc Cert.NormFinalIdeal.main_arg2) = m ((c.tc : Thread Cert.NormFinalIdeal.nD Cert.NormFinalIdeal.τ).loc Cert.NormFinalIdeal.main_arg2))
      ∧ θ_run (Cert.RefNormFinalIdeal.defs (F := Ideal)) (onTc (τ := Cert.RefNormFinalIdeal.τ) (Cert.RefNormFinalIdeal.main (F := Ideal))) ⟨m', fun _ => 0, g'⟩ (fun r => ∀ c : Dev Cert.RefNormFinalIdeal.nD,
          r.2.mem ((c.tc : Thread Cert.RefNormFinalIdeal.nD Cert.RefNormFinalIdeal.τ).loc Cert.RefNormFinalIdeal.main_v13) = v0 c
          ∧ r.2.mem ((c.tc : Thread Cert.RefNormFinalIdeal.nD Cert.RefNormFinalIdeal.τ).loc Cert.RefNormFinalIdeal.main_arg0) = m' ((c.tc : Thread Cert.RefNormFinalIdeal.nD Cert.RefNormFinalIdeal.τ).loc Cert.RefNormFinalIdeal.main_arg0)
          ∧ r.2.mem ((c.tc : Thread Cert.RefNormFinalIdeal.nD Cert.RefNormFinalIdeal.τ).loc Cert.RefNormFinalIdeal.main_arg1) = m' ((c.tc : Thread Cert.RefNormFinalIdeal.nD Cert.RefNormFinalIdeal.τ).loc Cert.RefNormFinalIdeal.main_arg1)
          ∧ r.2.mem ((c.tc : Thread Cert.RefNormFinalIdeal.nD Cert.RefNormFinalIdeal.τ).loc Cert.RefNormFinalIdeal.main_arg2) = m' ((c.tc : Thread Cert.RefNormFinalIdeal.nD Cert.RefNormFinalIdeal.τ).loc Cert.RefNormFinalIdeal.main_arg2))

def preserves_S5Post_S5PostIdeal : Prop :=
  True

def algebraic_S5PostIdeal_RefS5PostIdeal [hS5PostIdeal : Cert.S5PostIdeal.Facts] [hRefS5PostIdeal : Cert.RefS5PostIdeal.Facts] : Prop :=
  ∀ (m : (ℓ : Loc Cert.S5PostIdeal.nD Cert.S5PostIdeal.τ Cert.S5PostIdeal.sig) → Buf (Elt Ideal) ℓ) (g : Dev Cert.S5PostIdeal.nD → PrngReg)
    (m' : (ℓ : Loc Cert.RefS5PostIdeal.nD Cert.RefS5PostIdeal.τ Cert.RefS5PostIdeal.sig) → Buf (Elt Ideal) ℓ) (g' : Dev Cert.RefS5PostIdeal.nD → PrngReg), Pre_S5PostIdeal m →
    (∀ c : Dev Cert.S5PostIdeal.nD,
      m' ((c.tc : Thread Cert.RefS5PostIdeal.nD Cert.RefS5PostIdeal.τ).loc Cert.RefS5PostIdeal.main_arg0) = m ((c.tc : Thread Cert.S5PostIdeal.nD Cert.S5PostIdeal.τ).loc Cert.S5PostIdeal.main_arg0)
      ∧ m' ((c.tc : Thread Cert.RefS5PostIdeal.nD Cert.RefS5PostIdeal.τ).loc Cert.RefS5PostIdeal.main_arg1) = m ((c.tc : Thread Cert.S5PostIdeal.nD Cert.S5PostIdeal.τ).loc Cert.S5PostIdeal.main_arg1)
      ∧ m' ((c.tc : Thread Cert.RefS5PostIdeal.nD Cert.RefS5PostIdeal.τ).loc Cert.RefS5PostIdeal.main_arg2) = m ((c.tc : Thread Cert.S5PostIdeal.nD Cert.S5PostIdeal.τ).loc Cert.S5PostIdeal.main_arg2)
      ∧ m' ((c.tc : Thread Cert.RefS5PostIdeal.nD Cert.RefS5PostIdeal.τ).loc Cert.RefS5PostIdeal.main_arg3) = m ((c.tc : Thread Cert.S5PostIdeal.nD Cert.S5PostIdeal.τ).loc Cert.S5PostIdeal.main_arg3)
      ∧ m' ((c.tc : Thread Cert.RefS5PostIdeal.nD Cert.RefS5PostIdeal.τ).loc Cert.RefS5PostIdeal.main_arg4) = m ((c.tc : Thread Cert.S5PostIdeal.nD Cert.S5PostIdeal.τ).loc Cert.S5PostIdeal.main_arg4)) →
    ∃ (v0 : (c : Dev Cert.S5PostIdeal.nD) → Buf (Elt Ideal) ((c.tc : Thread Cert.S5PostIdeal.nD Cert.S5PostIdeal.τ).loc Cert.S5PostIdeal.main_v4)),
      θ_run (Cert.S5PostIdeal.defs (F := Ideal)) (onTc (τ := Cert.S5PostIdeal.τ) (Cert.S5PostIdeal.main (F := Ideal))) ⟨m, fun _ => 0, g⟩ (fun r => ∀ c : Dev Cert.S5PostIdeal.nD,
          r.2.mem ((c.tc : Thread Cert.S5PostIdeal.nD Cert.S5PostIdeal.τ).loc Cert.S5PostIdeal.main_v4) = v0 c
          ∧ r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
          ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
          ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
          ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3)
          ∧ r.2.mem ((c.tc : Thread Cert.S5PostIdeal.nD Cert.S5PostIdeal.τ).loc Cert.S5PostIdeal.main_arg4) = m ((c.tc : Thread Cert.S5PostIdeal.nD Cert.S5PostIdeal.τ).loc Cert.S5PostIdeal.main_arg4))
      ∧ θ_run (Cert.RefS5PostIdeal.defs (F := Ideal)) (onTc (τ := Cert.RefS5PostIdeal.τ) (Cert.RefS5PostIdeal.main (F := Ideal))) ⟨m', fun _ => 0, g'⟩ (fun r => ∀ c : Dev Cert.RefS5PostIdeal.nD,
          r.2.mem ((c.tc : Thread Cert.RefS5PostIdeal.nD Cert.RefS5PostIdeal.τ).loc Cert.RefS5PostIdeal.main_v43) = v0 c
          ∧ r.2.mem ((c.tc : Thread Cert.RefS5PostIdeal.nD Cert.RefS5PostIdeal.τ).loc Cert.RefS5PostIdeal.main_arg0) = m' ((c.tc : Thread Cert.RefS5PostIdeal.nD Cert.RefS5PostIdeal.τ).loc Cert.RefS5PostIdeal.main_arg0)
          ∧ r.2.mem ((c.tc : Thread Cert.RefS5PostIdeal.nD Cert.RefS5PostIdeal.τ).loc Cert.RefS5PostIdeal.main_arg1) = m' ((c.tc : Thread Cert.RefS5PostIdeal.nD Cert.RefS5PostIdeal.τ).loc Cert.RefS5PostIdeal.main_arg1)
          ∧ r.2.mem ((c.tc : Thread Cert.RefS5PostIdeal.nD Cert.RefS5PostIdeal.τ).loc Cert.RefS5PostIdeal.main_arg2) = m' ((c.tc : Thread Cert.RefS5PostIdeal.nD Cert.RefS5PostIdeal.τ).loc Cert.RefS5PostIdeal.main_arg2)
          ∧ r.2.mem ((c.tc : Thread Cert.RefS5PostIdeal.nD Cert.RefS5PostIdeal.τ).loc Cert.RefS5PostIdeal.main_arg3) = m' ((c.tc : Thread Cert.RefS5PostIdeal.nD Cert.RefS5PostIdeal.τ).loc Cert.RefS5PostIdeal.main_arg3)
          ∧ r.2.mem ((c.tc : Thread Cert.RefS5PostIdeal.nD Cert.RefS5PostIdeal.τ).loc Cert.RefS5PostIdeal.main_arg4) = m' ((c.tc : Thread Cert.RefS5PostIdeal.nD Cert.RefS5PostIdeal.τ).loc Cert.RefS5PostIdeal.main_arg4))

def Claim : Prop :=
  ∃ (hKernel : Cert.Kernel.Facts) (hKernelIdeal : Cert.KernelIdeal.Facts) (hReferenceIdeal : Cert.ReferenceIdeal.Facts) (hInA : Cert.InA.Facts) (hInAIdeal : Cert.InAIdeal.Facts) (hRefInAIdeal : Cert.RefInAIdeal.Facts) (hInC : Cert.InC.Facts) (hInCIdeal : Cert.InCIdeal.Facts) (hRefInCIdeal : Cert.RefInCIdeal.Facts) (hOut : Cert.Out.Facts) (hOutIdeal : Cert.OutIdeal.Facts) (hRefOutIdeal : Cert.RefOutIdeal.Facts) (hPeerQ : Cert.PeerQ.Facts) (hPeerQIdeal : Cert.PeerQIdeal.Facts) (hRefPeerQIdeal : Cert.RefPeerQIdeal.Facts) (hNormIn : Cert.NormIn.Facts) (hNormInIdeal : Cert.NormInIdeal.Facts) (hRefNormInIdeal : Cert.RefNormInIdeal.Facts) (hNormAtt : Cert.NormAtt.Facts) (hNormAttIdeal : Cert.NormAttIdeal.Facts) (hRefNormAttIdeal : Cert.RefNormAttIdeal.Facts) (hNormNext : Cert.NormNext.Facts) (hNormNextIdeal : Cert.NormNextIdeal.Facts) (hRefNormNextIdeal : Cert.RefNormNextIdeal.Facts) (hNormFinal : Cert.NormFinal.Facts) (hNormFinalIdeal : Cert.NormFinalIdeal.Facts) (hRefNormFinalIdeal : Cert.RefNormFinalIdeal.Facts) (hS5Post : Cert.S5Post.Facts) (hS5PostIdeal : Cert.S5PostIdeal.Facts) (hRefS5PostIdeal : Cert.RefS5PostIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InA (hInA := hInA)
    ∧ quiescent_InAIdeal (hInAIdeal := hInAIdeal)
    ∧ quiescent_RefInAIdeal (hRefInAIdeal := hRefInAIdeal)
    ∧ quiescent_InC (hInC := hInC)
    ∧ quiescent_InCIdeal (hInCIdeal := hInCIdeal)
    ∧ quiescent_RefInCIdeal (hRefInCIdeal := hRefInCIdeal)
    ∧ quiescent_Out (hOut := hOut)
    ∧ quiescent_OutIdeal (hOutIdeal := hOutIdeal)
    ∧ quiescent_RefOutIdeal (hRefOutIdeal := hRefOutIdeal)
    ∧ quiescent_PeerQ (hPeerQ := hPeerQ)
    ∧ quiescent_PeerQIdeal (hPeerQIdeal := hPeerQIdeal)
    ∧ quiescent_RefPeerQIdeal (hRefPeerQIdeal := hRefPeerQIdeal)
    ∧ quiescent_NormIn (hNormIn := hNormIn)
    ∧ quiescent_NormInIdeal (hNormInIdeal := hNormInIdeal)
    ∧ quiescent_RefNormInIdeal (hRefNormInIdeal := hRefNormInIdeal)
    ∧ quiescent_NormAtt (hNormAtt := hNormAtt)
    ∧ quiescent_NormAttIdeal (hNormAttIdeal := hNormAttIdeal)
    ∧ quiescent_RefNormAttIdeal (hRefNormAttIdeal := hRefNormAttIdeal)
    ∧ quiescent_NormNext (hNormNext := hNormNext)
    ∧ quiescent_NormNextIdeal (hNormNextIdeal := hNormNextIdeal)
    ∧ quiescent_RefNormNextIdeal (hRefNormNextIdeal := hRefNormNextIdeal)
    ∧ quiescent_NormFinal (hNormFinal := hNormFinal)
    ∧ quiescent_NormFinalIdeal (hNormFinalIdeal := hNormFinalIdeal)
    ∧ quiescent_RefNormFinalIdeal (hRefNormFinalIdeal := hRefNormFinalIdeal)
    ∧ quiescent_S5Post (hS5Post := hS5Post)
    ∧ quiescent_S5PostIdeal (hS5PostIdeal := hS5PostIdeal)
    ∧ quiescent_RefS5PostIdeal (hRefS5PostIdeal := hRefS5PostIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InA_InAIdeal
    ∧ algebraic_InAIdeal_RefInAIdeal (hInAIdeal := hInAIdeal) (hRefInAIdeal := hRefInAIdeal)
    ∧ preserves_InC_InCIdeal
    ∧ algebraic_InCIdeal_RefInCIdeal (hInCIdeal := hInCIdeal) (hRefInCIdeal := hRefInCIdeal)
    ∧ preserves_Out_OutIdeal
    ∧ algebraic_OutIdeal_RefOutIdeal (hOutIdeal := hOutIdeal) (hRefOutIdeal := hRefOutIdeal)
    ∧ preserves_PeerQ_PeerQIdeal
    ∧ algebraic_PeerQIdeal_RefPeerQIdeal (hPeerQIdeal := hPeerQIdeal) (hRefPeerQIdeal := hRefPeerQIdeal)
    ∧ preserves_NormIn_NormInIdeal
    ∧ algebraic_NormInIdeal_RefNormInIdeal (hNormInIdeal := hNormInIdeal) (hRefNormInIdeal := hRefNormInIdeal)
    ∧ preserves_NormAtt_NormAttIdeal
    ∧ algebraic_NormAttIdeal_RefNormAttIdeal (hNormAttIdeal := hNormAttIdeal) (hRefNormAttIdeal := hRefNormAttIdeal)
    ∧ preserves_NormNext_NormNextIdeal
    ∧ algebraic_NormNextIdeal_RefNormNextIdeal (hNormNextIdeal := hNormNextIdeal) (hRefNormNextIdeal := hRefNormNextIdeal)
    ∧ preserves_NormFinal_NormFinalIdeal
    ∧ algebraic_NormFinalIdeal_RefNormFinalIdeal (hNormFinalIdeal := hNormFinalIdeal) (hRefNormFinalIdeal := hRefNormFinalIdeal)
    ∧ preserves_S5Post_S5PostIdeal
    ∧ algebraic_S5PostIdeal_RefS5PostIdeal (hS5PostIdeal := hS5PostIdeal) (hRefS5PostIdeal := hRefS5PostIdeal)
-- ==== Pre_finite.lean ====
abbrev S8192x6144 : Shape := ⟨2, ![8192, 6144]⟩
abbrev S16x513 : Shape := ⟨2, ![16, 513]⟩
abbrev S8192x4096 : Shape := ⟨2, ![8192, 4096]⟩
abbrev S_ : Shape := ⟨0, ![]⟩

class Facts : Prop where
  slices_S8192x6144_S8192x4096_0_0 : S8192x6144.Slices ![0, 0] S8192x4096
  bitsLt_bf16_f32 : FTy.bits .bf16 < FTy.bits .f32
  bcast_S_S8192x4096 : S_.BroadcastsInDim S8192x4096 (![] : Fin 0 → Fin S8192x4096.rank)
  bcast_S_S16x513 : S_.BroadcastsInDim S16x513 (![] : Fin 0 → Fin S16x513.rank)

variable [Facts]

def fn {F : FTy → Type} [FloatOps F] (main_arg0 : FVec F S8192x6144 .bf16) (main_arg1 : FVec F S16x513 .f32) : IVec S8192x4096 1 × IVec S16x513 1 :=
  let main_v0 : FVec F S8192x4096 .bf16 := (extractStridedSlice S8192x4096 ![0, 0] · slices_S8192x6144_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_v5 : FVec F S16x513 .f32 := Host.absf main_arg1
  let main_cst_0 : FVec F S_ .f32 := constant S_ .f32 0x7F800000#32
  let main_v6 : FVec F S16x513 .f32 := broadcastInDim S16x513 ![] bcast_S_S16x513 main_cst_0
  let main_v7 : IVec S16x513 1 := cmpf .olt main_v5 main_v6
  (main_v4, main_v7)
-- ==== Kernel.lean ====
abbrev S8192x6144 : Shape := ⟨2, ![8192, 6144]⟩
abbrev S16x513 : Shape := ⟨2, ![16, 513]⟩
abbrev S4x2048x6144 : Shape := ⟨3, ![4, 2048, 6144]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S1x256x768 : Shape := ⟨3, ![1, 256, 768]⟩
abbrev S256x768x1 : Shape := ⟨3, ![256, 768, 1]⟩
abbrev S16x256x768 : Shape := ⟨3, ![16, 256, 768]⟩
abbrev S4x2048x2048 : Shape := ⟨3, ![4, 2048, 2048]⟩
abbrev S1x256x128 : Shape := ⟨3, ![1, 256, 128]⟩
abbrev S1x2048x128 : Shape := ⟨3, ![1, 2048, 128]⟩
abbrev S256x128 : Shape := ⟨2, ![256, 128]⟩
abbrev S1x256x256 : Shape := ⟨3, ![1, 256, 256]⟩
abbrev S256x256 : Shape := ⟨2, ![256, 256]⟩
abbrev S1x512x128 : Shape := ⟨3, ![1, 512, 128]⟩
abbrev S512x128 : Shape := ⟨2, ![512, 128]⟩
abbrev S1x256x512 : Shape := ⟨3, ![1, 256, 512]⟩
abbrev S256x512 : Shape := ⟨2, ![256, 512]⟩
abbrev S1x768x128 : Shape := ⟨3, ![1, 768, 128]⟩
abbrev S768x128 : Shape := ⟨2, ![768, 128]⟩

abbrev nBuf : Space → Nat
  | .hbm => 86
  | .vmem => 10
  | .smem => 0
  | _ => 0

abbrev bufTy : (tb : Table) → Fin (tcTables nBuf tb) → BufTy
  | .hbm, ⟨0, _⟩ => ⟨S8192x6144, .bf16⟩
  | .hbm, ⟨1, _⟩ => ⟨S16x513, .f32⟩
  | .hbm, ⟨2, _⟩ => ⟨S4x2048x6144, .bf16⟩
  | .hbm, ⟨3, _⟩ => ⟨S256, .i32⟩
  | .hbm, ⟨4, _⟩ => ⟨S256x1, .i32⟩
  | .hbm, ⟨5, _⟩ => ⟨S768, .i32⟩
  | .hbm, ⟨6, _⟩ => ⟨S1x768, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S256x768, .i32⟩
  | .hbm, ⟨11, _⟩ => ⟨S256x768, .i32⟩
  | .hbm, ⟨12, _⟩ => ⟨S256x768, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S256x768, .i32⟩
  | .hbm, ⟨17, _⟩ => ⟨S256x768, .i32⟩
  | .hbm, ⟨18, _⟩ => ⟨S_, .i32⟩
  | .hbm, ⟨19, _⟩ => ⟨S256x768, .i32⟩
  | .hbm, ⟨20, _⟩ => ⟨S256x768, .i32⟩
  | .hbm, ⟨21, _⟩ => ⟨S_, .i32⟩
  | .hbm, ⟨22, _⟩ => ⟨S256x768, .i32⟩
  | .hbm, ⟨23, _⟩ => ⟨S256x768, .i32⟩
  | .hbm, ⟨24, _⟩ => ⟨S_, .i32⟩
  | .hbm, ⟨25, _⟩ => ⟨S_, .i32⟩
  | .hbm, ⟨26, _⟩ => ⟨S1x768, .i32⟩
  | .hbm, ⟨27, _⟩ => ⟨S1x768, .i32⟩
  | .hbm, ⟨28, _⟩ => ⟨S1x768, .i32⟩
  | .hbm, ⟨29, _⟩ => ⟨S_, .i32⟩
  | .hbm, ⟨30, _⟩ => ⟨S1x768, .i32⟩
  | .hbm, ⟨31, _⟩ => ⟨S1x768, .i1⟩
  | .hbm, ⟨32, _⟩ => ⟨S1x768, .i32⟩
  | .hbm, ⟨33, _⟩ => ⟨S1x768, .i32⟩
  | .hbm, ⟨34, _⟩ => ⟨S_, .i32⟩
  | .hbm, ⟨35, _⟩ => ⟨S1x768, .i32⟩
  | .hbm, ⟨36, _⟩ => ⟨S1x768, .i1⟩
  | .hbm, ⟨37, _⟩ => ⟨S1x768, .i1⟩
  | .hbm, ⟨38, _⟩ => ⟨S_, .i32⟩
  | .hbm, ⟨39, _⟩ => ⟨S1x768, .i32⟩
  | .hbm, ⟨40, _⟩ => ⟨S1x768, .i32⟩
  | .hbm, ⟨41, _⟩ => ⟨S1x768, .i32⟩
  | .hbm, ⟨42, _⟩ => ⟨S_, .i32⟩
  | .hbm, ⟨43, _⟩ => ⟨S_, .i32⟩
  | .hbm, ⟨44, _⟩ => ⟨S256x1, .i32⟩
  | .hbm, ⟨45, _⟩ => ⟨S256x1, .i32⟩
  | .hbm, ⟨46, _⟩ => ⟨S256x1, .i32⟩
  | .hbm, ⟨47, _⟩ => ⟨S_, .i32⟩
  | .hbm, ⟨48, _⟩ => ⟨S256x1, .i32⟩
  | .hbm, ⟨49, _⟩ => ⟨S256x1, .i1⟩
  | .hbm, ⟨50, _⟩ => ⟨S256x1, .i32⟩
  | .hbm, ⟨51, _⟩ => ⟨S256x1, .i32⟩
  | .hbm, ⟨52, _⟩ => ⟨S_, .i32⟩
  | .hbm, ⟨53, _⟩ => ⟨S256x1, .i32⟩
  | .hbm, ⟨54, _⟩ => ⟨S256x1, .i1⟩
  | .hbm, ⟨55, _⟩ => ⟨S256x1, .i1⟩
  | .hbm, ⟨56, _⟩ => ⟨S_, .i32⟩
  | .hbm, ⟨57, _⟩ => ⟨S256x1, .i32⟩
  | .hbm, ⟨58, _⟩ => ⟨S256x1, .i32⟩
  | .hbm, ⟨59, _⟩ => ⟨S256x1, .i32⟩
  | .hbm, ⟨60, _⟩ => ⟨S256x768, .i32⟩
  | .hbm, ⟨61, _⟩ => ⟨S256x768, .i32⟩
  | .hbm, ⟨62, _⟩ => ⟨S256x768, .i32⟩
  | .hbm, ⟨63, _⟩ => ⟨S_, .i32⟩
  | .hbm, ⟨64, _⟩ => ⟨S256x768, .i32⟩
  | .hbm, ⟨65, _⟩ => ⟨S256x768, .i1⟩
  | .hbm, ⟨66, _⟩ => ⟨S_, .i32⟩
  | .hbm, ⟨67, _⟩ => ⟨S256x768, .i32⟩
  | .hbm, ⟨68, _⟩ => ⟨S256x768, .i1⟩
  | .hbm, ⟨69, _⟩ => ⟨S256x768, .i1⟩
  | .hbm, ⟨70, _⟩ => ⟨S1x256x768, .i1⟩
  | .hbm, ⟨71, _⟩ => ⟨S_, .i32⟩
  | .hbm, ⟨72, _⟩ => ⟨S256x768, .i32⟩
  | .hbm, ⟨73, _⟩ => ⟨S256x768, .i1⟩
  | .hbm, ⟨74, _⟩ => ⟨S_, .i32⟩
  | .hbm, ⟨75, _⟩ => ⟨S256x768, .i32⟩
  | .hbm, ⟨76, _⟩ => ⟨S256x768, .i32⟩
  | .hbm, ⟨77, _⟩ => ⟨S256x768, .i32⟩
  | .hbm, ⟨78, _⟩ => ⟨S256x768x1, .i32⟩
  | .hbm, ⟨79, _⟩ => ⟨S16x256x768, .f32⟩
  | .hbm, ⟨80, _⟩ => ⟨S_, .f32⟩
  | .hbm, ⟨81, _⟩ => ⟨S_, .f32⟩
  | .hbm, ⟨82, _⟩ => ⟨S16x256x768, .i1⟩
  | .hbm, ⟨83, _⟩ => ⟨S16x256x768, .f32⟩
  | .hbm, ⟨84, _⟩ => ⟨S16x256x768, .f32⟩
  | .hbm, ⟨85, _⟩ => ⟨S4x2048x2048, .f32⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x768, .f32⟩
  | .local _ .vmem, ⟨7, _⟩ => ⟨S1x256x768, .f32⟩
  | .local _ .vmem, ⟨8, _⟩ => ⟨S1x256x128, .f32⟩
  | .local _ .vmem, ⟨9, _⟩ => ⟨S1x256x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v13 : Ref sig .tc := ⟨.hbm, 41, rfl⟩
abbrev main_c_4 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_c_5 : Ref sig .tc := ⟨.hbm, 63, rfl⟩
abbrev main_v18 : Ref sig .tc := ⟨.hbm, 64, rfl⟩
abbrev main_v19 : Ref sig .tc := ⟨.hbm, 65, rfl⟩
abbrev main_c_6 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_c_7 : Ref sig .tc := ⟨.hbm, 71, rfl⟩
abbrev main_v24 : Ref sig .tc := ⟨.hbm, 72, rfl⟩
abbrev main_v25 : Ref sig .tc := ⟨.hbm, 73, rfl⟩
abbrev main_c_8 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_cst : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v31 : Ref sig .tc := ⟨.hbm, 84, rfl⟩
abbrev main_v32 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 8], ![false, false, false]⟩

def k0_cond3 (i : grid0.Coords) : BitVec 1 :=
  let arg2 : BitVec 32 := BitVec.ofNat 32 (i 2).val
  let c2_i32 : BitVec 32 := 2#32
  let v8 : BitVec 1 := Scalar.cmpi .sge arg2 c2_i32
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c256_i32 : BitVec 32 := 256#32
  let v11 : BitVec 32 := Scalar.muli arg2 c256_i32
  let c512_i32 : BitVec 32 := 512#32
  let v12 : BitVec 32 := Scalar.subi v11 c512_i32
  v12
def k0_off1 (i : grid0.Coords) : Fin 3 → Nat :=
  let c0_5 : Index := 0#32
  let arg2 : BitVec 32 := BitVec.ofNat 32 (i 2).val
  let c256_i32 : BitVec 32 := 256#32
  let v11 : BitVec 32 := Scalar.muli arg2 c256_i32
  let c512_i32 : BitVec 32 := 512#32
  let v12 : BitVec 32 := Scalar.subi v11 c512_i32
  let v13 : BitVec 32 := v12
  let v14 : Index := Scalar.indexCast v13
  let c0_6 : Index := 0#32
  ![0, v14.toNat, 0]
def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_2 : BitVec 32 := 0#32
  let v4 : BitVec 1 := Scalar.cmpi .ne v3 c0_i32_2
  v4

def k0_cond2 (i : grid0.Coords) : BitVec 1 :=
  let arg2 : BitVec 32 := BitVec.ofNat 32 (i 2).val
  let c1_i32 : BitVec 32 := 1#32
  let v5 : BitVec 1 := Scalar.cmpi .eq arg2 c1_i32
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8192x6144 : Shape := ⟨2, ![8192, 6144]⟩
abbrev S16x513 : Shape := ⟨2, ![16, 513]⟩
abbrev S4x2048x6144 : Shape := ⟨3, ![4, 2048, 6144]⟩
abbrev S4x2048x2048 : Shape := ⟨3, ![4, 2048, 2048]⟩
abbrev S4x32x64x16x128 : Shape := ⟨5, ![4, 32, 64, 16, 128]⟩
abbrev S_ : Shape := ⟨0, ![]⟩
abbrev S4x2560x2048 : Shape := ⟨3, ![4, 2560, 2048]⟩
abbrev S4x40x64x16x128 : Shape := ⟨5, ![4, 40, 64, 16, 128]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x1 : Shape := ⟨3, ![32, 9, 1]⟩
abbrev S4x32x9x64x16x128 : Shape := ⟨6, ![4, 32, 9, 64, 16, 128]⟩
abbrev S4x32x576x16x128 : Shape := ⟨5, ![4, 32, 576, 16, 128]⟩
abbrev S4x32x16x64x576 : Shape := ⟨5, ![4, 32, 16, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S32x576 : Shape := ⟨2, ![32, 576]⟩
abbrev S1x32x1x1x576 : Shape := ⟨5, ![1, 32, 1, 1, 576]⟩
abbrev S1x1x16x64x576 : Shape := ⟨5, ![1, 1, 16, 64, 576]⟩
abbrev S4x32x16x64 : Shape := ⟨4, ![4, 32, 16, 64]⟩
abbrev S4x32x16x64x1 : Shape := ⟨5, ![4, 32, 16, 64, 1]⟩
abbrev S4x32x16x128x64 : Shape := ⟨5, ![4, 32, 16, 128, 64]⟩

abbrev nBuf : Space → Nat
  | .hbm => 134
  | .vmem => 0
  | .smem => 0
  | _ => 0

abbrev hbmTy0_0 (i : Nat) : BufTy := match i % 128 with
  | 0 => ⟨S8192x6144, .bf16⟩
  | 1 => ⟨S16x513, .f32⟩
  | 2 => ⟨S8192x6144, .f32⟩
  | 3 => ⟨S4x2048x6144, .f32⟩
  | 4 => ⟨S4x2048x2048, .f32⟩
  | 5 => ⟨S4x2048x2048, .f32⟩
  | 6 => ⟨S4x2048x2048, .f32⟩
  | 7 => ⟨S4x32x64x16x128, .f32⟩
  | 8 => ⟨S_, .i32⟩
  | 9 => ⟨S_, .f32⟩
  | 10 => ⟨S4x2560x2048, .f32⟩
  | 11 => ⟨S4x40x64x16x128, .f32⟩
  | 12 => ⟨S_, .i32⟩
  | 13 => ⟨S_, .f32⟩
  | 14 => ⟨S4x2560x2048, .f32⟩
  | 15 => ⟨S4x40x64x16x128, .f32⟩
  | 16 => ⟨S32, .i32⟩
  | 17 => ⟨S32x1, .i32⟩
  | 18 => ⟨S9, .i32⟩
  | 19 => ⟨S1x9, .i32⟩
  | 20 => ⟨S32x9, .i32⟩
  | 21 => ⟨S32x9, .i32⟩
  | 22 => ⟨S32x9, .i32⟩
  | 23 => ⟨S_, .i32⟩
  | 24 => ⟨S32x9, .i32⟩
  | 25 => ⟨S32x9, .i1⟩
  | 26 => ⟨S_, .i32⟩
  | 27 => ⟨S32x9, .i32⟩
  | 28 => ⟨S32x9, .i32⟩
  | 29 => ⟨S32x9, .i32⟩
  | 30 => ⟨S32x9x1, .i32⟩
  | 31 => ⟨S4x32x9x64x16x128, .f32⟩
  | 32 => ⟨S4x32x576x16x128, .f32⟩
  | 33 => ⟨S_, .i32⟩
  | 34 => ⟨S32x9, .i32⟩
  | 35 => ⟨S32x9, .i1⟩
  | 36 => ⟨S_, .i32⟩
  | 37 => ⟨S32x9, .i32⟩
  | 38 => ⟨S32x9, .i32⟩
  | 39 => ⟨S32x9, .i32⟩
  | 40 => ⟨S32x9x1, .i32⟩
  | 41 => ⟨S4x32x9x64x16x128, .f32⟩
  | 42 => ⟨S4x32x576x16x128, .f32⟩
  | 43 => ⟨S4x32x16x64x576, .f32⟩
  | 44 => ⟨S_, .f32⟩
  | 45 => ⟨S4x32x16x64x576, .f32⟩
  | 46 => ⟨S4x32x16x64x576, .f32⟩
  | 47 => ⟨S64, .i32⟩
  | 48 => ⟨S64x1, .i32⟩
  | 49 => ⟨S_, .i32⟩
  | 50 => ⟨S64x1, .i32⟩
  | 51 => ⟨S64x1, .i32⟩
  | 52 => ⟨S576, .i32⟩
  | 53 => ⟨S1x576, .i32⟩
  | 54 => ⟨S64x576, .i32⟩
  | 55 => ⟨S64x576, .i32⟩
  | 56 => ⟨S64x576, .i32⟩
  | 57 => ⟨S_, .i32⟩
  | 58 => ⟨S_, .i32⟩
  | 59 => ⟨S_, .i32⟩
  | 60 => ⟨S64x576, .i32⟩
  | 61 => ⟨S64x576, .i32⟩
  | 62 => ⟨S_, .i32⟩
  | 63 => ⟨S64x576, .i32⟩
  | 64 => ⟨S64x576, .i32⟩
  | 65 => ⟨S_, .i32⟩
  | 66 => ⟨S64x576, .i32⟩
  | 67 => ⟨S64x576, .i32⟩
  | 68 => ⟨S_, .i32⟩
  | 69 => ⟨S64x576, .i32⟩
  | 70 => ⟨S64x576, .i1⟩
  | 71 => ⟨S_, .i32⟩
  | 72 => ⟨S64x576, .i32⟩
  | 73 => ⟨S64x576, .i32⟩
  | 74 => ⟨S64x576, .i32⟩
  | 75 => ⟨S64x576x1, .i32⟩
  | 76 => ⟨S16x64x576, .f32⟩
  | 77 => ⟨S32, .i32⟩
  | 78 => ⟨S32x1, .i32⟩
  | 79 => ⟨S_, .i32⟩
  | 80 => ⟨S32x1, .i32⟩
  | 81 => ⟨S32x1, .i32⟩
  | 82 => ⟨S576, .i32⟩
  | 83 => ⟨S_, .i32⟩
  | 84 => ⟨S_, .i32⟩
  | 85 => ⟨S576, .i32⟩
  | 86 => ⟨S576, .i32⟩
  | 87 => ⟨S576, .i32⟩
  | 88 => ⟨S_, .i32⟩
  | 89 => ⟨S576, .i32⟩
  | 90 => ⟨S576, .i1⟩
  | 91 => ⟨S576, .i32⟩
  | 92 => ⟨S576, .i32⟩
  | 93 => ⟨S_, .i32⟩
  | 94 => ⟨S576, .i32⟩
  | 95 => ⟨S576, .i1⟩
  | 96 => ⟨S576, .i1⟩
  | 97 => ⟨S_, .i32⟩
  | 98 => ⟨S576, .i32⟩
  | 99 => ⟨S576, .i32⟩
  | 100 => ⟨S576, .i32⟩
  | 101 => ⟨S1x576, .i32⟩
  | 102 => ⟨S32x576, .i32⟩
  | 103 => ⟨S32x576, .i32⟩
  | 104 => ⟨S32x576, .i32⟩
  | 105 => ⟨S_, .i32⟩
  | 106 => ⟨S32x576, .i32⟩
  | 107 => ⟨S32x576, .i1⟩
  | 108 => ⟨S1x32x1x1x576, .i1⟩
  | 109 => ⟨S1x1x16x64x576, .f32⟩
  | 110 => ⟨S4x32x16x64x576, .f32⟩
  | 111 => ⟨S4x32x16x64x576, .f32⟩
  | 112 => ⟨S_, .f32⟩
  | 113 => ⟨S_, .f32⟩
  | 114 => ⟨S4x32x16x64x576, .i1⟩
  | 115 => ⟨S4x32x16x64x576, .f32⟩
  | 116 => ⟨S4x32x16x64x576, .f32⟩
  | 117 => ⟨S_, .f32⟩
  | 118 => ⟨S4x32x16x64, .f32⟩
  | 119 => ⟨S_, .f32⟩
  | 120 => ⟨S4x32x16x64, .f32⟩
  | 121 => ⟨S4x32x16x64, .f32⟩
  | 122 => ⟨S4x32x16x64x1, .f32⟩
  | 123 => ⟨S4x32x16x64x576, .f32⟩
  | 124 => ⟨S4x32x16x64x576, .f32⟩
  | 125 => ⟨S4x32x16x64x576, .f32⟩
  | 126 => ⟨S_, .f32⟩
  | 127 => ⟨S4x32x16x64, .f32⟩
  | _ => ⟨S8192x6144, .bf16⟩

abbrev hbmTy0_1 (i : Nat) : BufTy := match i % 128 with
  | 0 => ⟨S4x32x16x64x1, .f32⟩
  | 1 => ⟨S4x32x16x64x576, .f32⟩
  | 2 => ⟨S4x32x16x64x576, .f32⟩
  | 3 => ⟨S4x32x16x128x64, .f32⟩
  | 4 => ⟨S4x32x64x16x128, .f32⟩
  | 5 => ⟨S4x2048x2048, .f32⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_6 : Ref sig .tc := ⟨.hbm, 57, rfl⟩
abbrev main_c_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_12 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_c : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_0 : Ref sig .tc := ⟨.hbm, 97, rfl⟩
abbrev main_call3_v12 : Ref sig .tc := ⟨.hbm, 98, rfl⟩
abbrev main_call3_v13 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_13 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_14 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v71 : Ref sig .tc := ⟨.hbm, 116, rfl⟩
abbrev main_cst_15 : Ref sig .tc := ⟨.hbm, 117, rfl⟩
abbrev main_v72 : Ref sig .tc := ⟨.hbm, 118, rfl⟩
abbrev main_cst_16 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_17 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩

abbrev nD : Nat := 1
abbrev τ : Topo := Topo.v7x

variable {F : FTy → Type} [FloatOps F]
-- ==== InA.lean ====
abbrev S8192x4096 : Shape := ⟨2, ![8192, 4096]⟩
abbrev S4096x11264 : Shape := ⟨2, ![4096, 11264]⟩
abbrev S4096x5120 : Shape := ⟨2, ![4096, 5120]⟩
abbrev S8192x5120 : Shape := ⟨2, ![8192, 5120]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x11264, .f32⟩
  | .hbm, ⟨2, _⟩ => ⟨S4096x5120, .f32⟩
  | .hbm, ⟨3, _⟩ => ⟨S4096x5120, .bf16⟩
  | .hbm, ⟨4, _⟩ => ⟨S8192x5120, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInAIdeal.lean ====
abbrev S8192x4096 : Shape := ⟨2, ![8192, 4096]⟩
abbrev S4096x11264 : Shape := ⟨2, ![4096, 11264]⟩
abbrev S8192x11264 : Shape := ⟨2, ![8192, 11264]⟩
abbrev S8192x5120 : Shape := ⟨2, ![8192, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11264, .f32⟩
  | .hbm, ⟨2, _⟩ => ⟨S8192x4096, .f32⟩
  | .hbm, ⟨3, _⟩ => ⟨S8192x11264, .f32⟩
  | .hbm, ⟨4, _⟩ => ⟨S8192x5120, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InC.lean ====
abbrev S8192x4096 : Shape := ⟨2, ![8192, 4096]⟩
abbrev S4096x11264 : Shape := ⟨2, ![4096, 11264]⟩
abbrev S4096x6144 : Shape := ⟨2, ![4096, 6144]⟩
abbrev S8192x6144 : Shape := ⟨2, ![8192, 6144]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x11264, .f32⟩
  | .hbm, ⟨2, _⟩ => ⟨S4096x6144, .f32⟩
  | .hbm, ⟨3, _⟩ => ⟨S4096x6144, .bf16⟩
  | .hbm, ⟨4, _⟩ => ⟨S8192x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInCIdeal.lean ====
abbrev S8192x4096 : Shape := ⟨2, ![8192, 4096]⟩
abbrev S4096x11264 : Shape := ⟨2, ![4096, 11264]⟩
abbrev S8192x11264 : Shape := ⟨2, ![8192, 11264]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11264, .f32⟩
  | .hbm, ⟨2, _⟩ => ⟨S8192x4096, .f32⟩
  | .hbm, ⟨3, _⟩ => ⟨S8192x11264, .f32⟩
  | .hbm, ⟨4, _⟩ => ⟨S8192x6144, .f32⟩
  | .hbm, ⟨5, _⟩ => ⟨S8192x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S4096x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefOutIdeal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PeerQ.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S4096x2048, .bf16⟩
  | .hbm, ⟨3, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefPeerQIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x4096, .f32⟩
  | .hbm, ⟨3, _⟩ => ⟨S8192x2048, .f32⟩
  | .hbm, ⟨4, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NormIn.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefNormInIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormAtt.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefNormAttIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormNext.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S8192x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefNormNextIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== NormFinal.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefNormFinalIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== S5Post.lean ====
abbrev S8192x1024 : Shape := ⟨2, ![8192, 1024]⟩
abbrev S8192x5120 : Shape := ⟨2, ![8192, 5120]⟩
abbrev S1024 : Shape := ⟨1, ![1024]⟩
abbrev S1024x1024 : Shape := ⟨2, ![1024, 1024]⟩
abbrev S1x1024 : Shape := ⟨2, ![1, 1024]⟩
abbrev S2x1024 : Shape := ⟨2, ![2, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x5120, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S2x1024, .f32⟩
  | .hbm, ⟨8, _⟩ => ⟨S1024x1024, .bf16⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefS5PostIdeal.lean ====
abbrev S8192x1024 : Shape := ⟨2, ![8192, 1024]⟩
abbrev S8192x5120 : Shape := ⟨2, ![8192, 5120]⟩
abbrev S1024 : Shape := ⟨1, ![1024]⟩
abbrev S1024x1024 : Shape := ⟨2, ![1024, 1024]⟩
abbrev S4x2048x64x16 : Shape := ⟨4, ![4, 2048, 64, 16]⟩
abbrev S64x16 : Shape := ⟨2, ![64, 16]⟩
abbrev S1x1x64x16 : Shape := ⟨4, ![1, 1, 64, 16]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5120, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S4x2048x64x16, .f32⟩
  | .hbm, ⟨7, _⟩ => ⟨S4x2048x64x16, .f32⟩
  | .hbm, ⟨8, _⟩ => ⟨S64x16, .f32⟩
  | .hbm, ⟨9, _⟩ => ⟨S1x1x64x16, .f32⟩
  | .hbm, ⟨10, _⟩ => ⟨S4x2048x64x16, .f32⟩
  | .hbm, ⟨11, _⟩ => ⟨S4x2048x64x16, .f32⟩
  | .hbm, ⟨12, _⟩ => ⟨S4x2048x64x16, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Proof.Dense.lean ====
/-
  The product that every dense layer's block computes: rows of one staged block times columns of the other, read at
  one element as a sum over the contracted coordinate.
-/
module

public import Idealize.ShloMosaic.Lib.Pipeline.Value
public import Idealize.ShloMosaic.Lib.MatmulPlain
public import Idealize.ShloMosaic.Lib.ValueIdx

@[expose] public section

noncomputable section

namespace Cert.Dense

open Idealize.ShloMosaic Idealize.ShloMosaic.ValueIdx

/-- A matrix product onto a zero accumulator, its right operand passed through an idle shape cast, at one element. -/
theorem block_apply {M K N : ℕ} {φ₁ φ₂ : FTy} (x : FVec Ideal ⟨2, ![M, K]⟩ φ₁) (w : FVec Ideal ⟨2, ![K, N]⟩ φ₂)
    (h : (⟨2, ![K, N]⟩ : Shape).ShapeCasts ⟨2, ![K, N]⟩) (y : (⟨2, ![M, N]⟩ : Shape).Idx) :
    FloatOps.matmul (DotDims.plain M K N) none x (shapeCast ⟨2, ![K, N]⟩ w h) (constant ⟨2, ![M, N]⟩ .f32 0x00000000#32) y
      = ∑ k : Fin K, x (ix2 (y 0) k) * w (ix2 k (y 1)) := by
  rw [shapeCast_self]
  have at_ix (r : Fin M) (c : Fin N) : FloatOps.matmul (DotDims.plain M K N) none x w
      (constant (F := Ideal) ⟨2, ![M, N]⟩ .f32 0x00000000#32) (ix2 r c) = ∑ k : Fin K, x (ix2 r k) * w (ix2 k c) := by
    rw [Ideal.matmul_plain_apply]
    have z : (constant (F := Ideal) ⟨2, ![M, N]⟩ .f32 0x00000000#32) (ix2 r c) = 0 := Ideal.ofBits_zero_f32
    rw [z, zero_add]
  exact (congrArg _ (eq_ix2 y)).trans (at_ix (y 0) (y 1))

end Cert.Dense

end
-- ==== Proof.InA.lean ====
/-
  The first part of the input projection: what the launch's result array holds is the reference's product.
-/
module

public import proofs.«01_k».proof.Proof.Dense
public import proofs.«01_k».proof.Proof.Gen.InAIdeal.Value
public import proofs.«01_k».proof.Proof.Gen.RefInAIdeal.Read
public import Idealize.ShloMosaic.Lib.Pipeline.ValueKit
public import Idealize.ShloMosaic.Lib.Quiescent

@[expose] public section

set_option maxRecDepth 16384

noncomputable section

namespace Cert.InAIdeal.Product

open Cert.InAIdeal Cert.InAIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The three windows move together over the grid: the rows with the result's rows, the weight's columns with its
    columns. -/
theorem idx (t : Fin cfg0.N) : win0_0.index t 0 = win0_2.index t 0 ∧ win0_0.index t 1 = 0
    ∧ win0_1.index t 0 = 0 ∧ win0_1.index t 1 = win0_2.index t 1 :=
  (by decide +kernel : ∀ t : Fin grid0.N, win0_0.index t 0 = win0_2.index t 0 ∧ win0_0.index t 1 = 0
    ∧ win0_1.index t 0 = 0 ∧ win0_1.index t 1 = win0_2.index t 1) t

/-- The weight that the launch finds is the argument's first 5120 columns. -/
theorem weight (c : Dev nD) (i : S4096x5120.Idx) (j : S4096x11264.Idx) (h : ∀ a : Fin 2, (j a).val = (i a).val) :
    (V m c main_v1 : S4096x5120.Idx → EReal) i = (m ((c : Thread nD τ).loc main_arg1) : S4096x11264.Idx → EReal) j := by
  have e : V m c main_v1 = truncf (F := Ideal) .bf16 (extractStridedSlice S4096x5120 ![0, 0] (m ((c : Thread nD τ).loc main_arg1) : FVec Ideal S4096x11264 .f32) slices_S4096x11264_S4096x5120_0_0) bitsLt_bf16_f32 := by
    unfold V hostOps0; after_results
  rw [e]
  exact extractStridedSlice_apply ![0, 0] _ slices_S4096x11264_S4096x5120_0_0 i j (fun a => match a with
    | ⟨0, _⟩ => by have := h 0; show (j 0).val = 0 + (i 0).val; omega
    | ⟨1, _⟩ => by have := h 1; show (j 1).val = 0 + (i 1).val; omega)

/-- After the launch the result array holds the reference's product, element by element. -/
theorem final (c : Dev nD) : (dats m 0 c).arrAt 2 cfg0.N
    = Cert.RefInAIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (Cert.Dense.block_apply (M := 1024) (K := 4096) (N := 512) (iblk m c 0 t) (iblk m c 1 t) shapeCasts_S4096x512_S4096x512 y).trans ?_
  rw [Cert.RefInAIdeal.Read.val_main_v2_apply, Cert.RefInAIdeal.Read.val_main_v1_apply]
  obtain ⟨e0, e1, e2, e3⟩ := idx t
  have p0 : (((win0_2.blk t).view.emb y) 0 : ℕ) = win0_2.index t 0 * 1024 + (y 0 : ℕ) := by blk_simp
  have p1 : (((win0_2.blk t).view.emb y) 1 : ℕ) = win0_2.index t 1 * 512 + (y 1 : ℕ) := by blk_simp
  refine Finset.sum_congr rfl fun k _ => congrArg₂ (fun a b : EReal => a * b) ?_ ?_
  · show (V m c main_arg0 : S8192x4096.Idx → EReal) _ = _
    rw [V_main_arg0]
    refine congrArg (m ((c : Thread nD τ).loc main_arg0) : S8192x4096.Idx → EReal) (funext fun a => Fin.ext ?_)
    match a with
    | ⟨0, _⟩ => blk_simp [e0]; exact p0.symm
    | ⟨1, _⟩ => blk_simp [e1]
  · refine weight m c _ _ fun a => ?_
    match a with
    | ⟨0, _⟩ => blk_simp [e2]
    | ⟨1, _⟩ => blk_simp [e3]; exact p1

/-- So every run of the program ends with the reference's product in the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2)
        = Cert.RefInAIdeal.Read.val_main_v2 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.InAIdeal.Value.run_blocks m ρ)

end Cert.InAIdeal.Product
end
-- ==== Proof.InC.lean ====
/-
  The last part of the input projection: what the launch's result array holds is the reference's product.
-/
module

public import proofs.«01_k».proof.Proof.Dense
public import proofs.«01_k».proof.Proof.Gen.InCIdeal.Value
public import proofs.«01_k».proof.Proof.Gen.RefInCIdeal.Read
public import Idealize.ShloMosaic.Lib.Pipeline.ValueKit
public import Idealize.ShloMosaic.Lib.Quiescent

@[expose] public section

set_option maxRecDepth 16384

noncomputable section

namespace Cert.InCIdeal.Product

open Cert.InCIdeal Cert.InCIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The three windows move together over the grid: the rows with the result's rows, the weight's columns with its
    columns. -/
theorem idx (t : Fin cfg0.N) : win0_0.index t 0 = win0_2.index t 0 ∧ win0_0.index t 1 = 0
    ∧ win0_1.index t 0 = 0 ∧ win0_1.index t 1 = win0_2.index t 1 :=
  (by decide +kernel : ∀ t : Fin grid0.N, win0_0.index t 0 = win0_2.index t 0 ∧ win0_0.index t 1 = 0
    ∧ win0_1.index t 0 = 0 ∧ win0_1.index t 1 = win0_2.index t 1) t

/-- The weight that the launch finds is the argument's columns from 5120 on. -/
theorem weight (c : Dev nD) (i : S4096x6144.Idx) (j : S4096x11264.Idx) (h0 : (j 0).val = (i 0).val)
    (h1 : (j 1).val = 5120 + (i 1).val) :
    (V m c main_v1 : S4096x6144.Idx → EReal) i = (m ((c : Thread nD τ).loc main_arg1) : S4096x11264.Idx → EReal) j := by
  have e : V m c main_v1 = truncf (F := Ideal) .bf16 (extractStridedSlice S4096x6144 ![0, 5120] (m ((c : Thread nD τ).loc main_arg1) : FVec Ideal S4096x11264 .f32) slices_S4096x11264_S4096x6144_0_5120) bitsLt_bf16_f32 := by
    unfold V hostOps0; after_results
  rw [e]
  exact extractStridedSlice_apply ![0, 5120] _ slices_S4096x11264_S4096x6144_0_5120 i j (fun a => match a with
    | ⟨0, _⟩ => h0.trans (Nat.zero_add _).symm
    | ⟨1, _⟩ => by show (j 1).val = 5120 + (i 1).val; exact h1)

/-- After the launch the result array holds the reference's product, element by element. -/
theorem final (c : Dev nD) : (dats m 0 c).arrAt 2 cfg0.N
    = Cert.RefInCIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (Cert.Dense.block_apply (M := 1024) (K := 4096) (N := 512) (iblk m c 0 t) (iblk m c 1 t) shapeCasts_S4096x512_S4096x512 y).trans ?_
  rw [Cert.RefInCIdeal.Read.val_main_v3_apply, Cert.RefInCIdeal.Read.val_main_v2_apply, Cert.RefInCIdeal.Read.val_main_v1_apply]
  obtain ⟨e0, e1, e2, e3⟩ := idx t
  have p0 : (((win0_2.blk t).view.emb y) 0 : ℕ) = win0_2.index t 0 * 1024 + (y 0 : ℕ) := by blk_simp
  have p1 : (((win0_2.blk t).view.emb y) 1 : ℕ) = win0_2.index t 1 * 512 + (y 1 : ℕ) := by blk_simp
  refine Finset.sum_congr rfl fun k _ => congrArg₂ (fun a b : EReal => a * b) ?_ ?_
  · show (V m c main_arg0 : S8192x4096.Idx → EReal) _ = _
    rw [V_main_arg0]
    refine congrArg (m ((c : Thread nD τ).loc main_arg0) : S8192x4096.Idx → EReal) (funext fun a => Fin.ext ?_)
    match a with
    | ⟨0, _⟩ => blk_simp [e0]; exact p0.symm
    | ⟨1, _⟩ => blk_simp [e1]
  · refine weight m c _ _ (by blk_simp [e2]) ?_
    blk_simp [e3]
    exact congrArg (5120 + ·) p1

/-- So every run of the program ends with the reference's product in the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2)
        = Cert.RefInCIdeal.Read.val_main_v3 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.InCIdeal.Value.run_blocks m ρ)

end Cert.InCIdeal.Product
end
-- ==== Proof.Out.lean ====
/-
  The output projection and its residual: what the launch's result array holds is the reference's product.
-/
module

public import proofs.«01_k».proof.Proof.Dense
public import proofs.«01_k».proof.Proof.Gen.OutIdeal.Value
public import proofs.«01_k».proof.Proof.Gen.RefOutIdeal.Read
public import Idealize.ShloMosaic.Lib.Pipeline.ValueKit
public import Idealize.ShloMosaic.Lib.Quiescent

@[expose] public section

set_option maxRecDepth 16384

noncomputable section

namespace Cert.OutIdeal.Product

open Cert.OutIdeal Cert.OutIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The three windows move together over the grid: the rows with the result's rows, the weight's columns with its
    columns. -/
theorem idx (t : Fin cfg0.N) : win0_0.index t 0 = win0_3.index t 0 ∧ win0_0.index t 1 = 0
    ∧ win0_1.index t 0 = 0 ∧ win0_1.index t 1 = win0_3.index t 1 ∧ win0_2.index t 0 = win0_3.index t 0 ∧ win0_2.index t 1 = win0_3.index t 1 :=
  (by decide +kernel : ∀ t : Fin grid0.N, win0_0.index t 0 = win0_3.index t 0 ∧ win0_0.index t 1 = 0
    ∧ win0_1.index t 0 = 0 ∧ win0_1.index t 1 = win0_3.index t 1 ∧ win0_2.index t 0 = win0_3.index t 0 ∧ win0_2.index t 1 = win0_3.index t 1) t

/-- The weight that the launch finds is the argument. -/
theorem weight (c : Dev nD) : (V m c main_v0 : S4096x4096.Idx → EReal) = m ((c : Thread nD τ).loc main_arg1) := by
  have e : V m c main_v0 = truncf (F := Ideal) .bf16 (m ((c : Thread nD τ).loc main_arg1) : FVec Ideal S4096x4096 .f32) bitsLt_bf16_f32 := by
    unfold V hostOps0; after_results
  exact e

/-- After the launch the result array holds the reference's product, element by element. -/
theorem final (c : Dev nD) : (dats m 0 c).arrAt 3 cfg0.N
    = Cert.RefOutIdeal.Read.val_main_v2 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  frame_out
  rw [Cert.RefOutIdeal.Read.val_main_v2_apply, Cert.RefOutIdeal.Read.val_main_v1_apply]
  obtain ⟨e0, e1, e2, e3, e4, e5⟩ := idx t
  have p0 : (((win0_3.blk t).view.emb y) 0 : ℕ) = win0_3.index t 0 * 1024 + (y 0 : ℕ) := by blk_simp
  have p1 : (((win0_3.blk t).view.emb y) 1 : ℕ) = win0_3.index t 1 * 512 + (y 1 : ℕ) := by blk_simp
  refine congrArg₂ (fun a b : EReal => a + b) ?_
    ((Cert.Dense.block_apply (M := 1024) (K := 4096) (N := 512) (iblk m c 0 t) (iblk m c 1 t) shapeCasts_S4096x512_S4096x512 y).trans ?_)
  · show (V m c main_arg2 : S8192x4096.Idx → EReal) _ = _
    rw [V_main_arg2]
    refine congrArg (m ((c : Thread nD τ).loc main_arg2) : S8192x4096.Idx → EReal) (funext fun a => Fin.ext ?_)
    match a with
    | ⟨0, _⟩ => blk_simp [e4]
    | ⟨1, _⟩ => blk_simp [e5]
  refine Finset.sum_congr rfl fun k _ => congrArg₂ (fun a b : EReal => a * b) ?_ ?_
  · show (V m c main_arg0 : S8192x4096.Idx → EReal) _ = _
    rw [V_main_arg0]
    refine congrArg (m ((c : Thread nD τ).loc main_arg0) : S8192x4096.Idx → EReal) (funext fun a => Fin.ext ?_)
    match a with
    | ⟨0, _⟩ => blk_simp [e0]; exact p0.symm
    | ⟨1, _⟩ => blk_simp [e1]
  · show (V m c main_v0 : S4096x4096.Idx → EReal) _ = _
    rw [weight]
    refine congrArg (m ((c : Thread nD τ).loc main_arg1) : S4096x4096.Idx → EReal) (funext fun a => Fin.ext ?_)
    match a with
    | ⟨0, _⟩ => blk_simp [e2]
    | ⟨1, _⟩ => blk_simp [e3]; exact p1.symm

/-- So every run of the program ends with the reference's product in the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1)
        = Cert.RefOutIdeal.Read.val_main_v2 (F := Ideal) (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.OutIdeal.Value.run_blocks m ρ)

end Cert.OutIdeal.Product
end
-- ==== Proof.PeerQ.lean ====
/-
  The experts' query projection: what the launch's result array holds is the reference's product.
-/
module

public import proofs.«01_k».proof.Proof.Dense
public import proofs.«01_k».proof.Proof.Gen.PeerQIdeal.Value
public import proofs.«01_k».proof.Proof.Gen.RefPeerQIdeal.Read
public import Idealize.ShloMosaic.Lib.Pipeline.ValueKit
public import Idealize.ShloMosaic.Lib.Quiescent

@[expose] public section

set_option maxRecDepth 16384

noncomputable section

namespace Cert.PeerQIdeal.Product

open Cert.PeerQIdeal Cert.PeerQIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The three windows move together over the grid: the rows with the result's rows, the weight's columns with its
    columns. -/
theorem idx (t : Fin cfg0.N) : win0_0.index t 0 = win0_2.index t 0 ∧ win0_0.index t 1 = 0
    ∧ win0_1.index t 0 = 0 ∧ win0_1.index t 1 = win0_2.index t 1 :=
  (by decide +kernel : ∀ t : Fin grid0.N, win0_0.index t 0 = win0_2.index t 0 ∧ win0_0.index t 1 = 0
    ∧ win0_1.index t 0 = 0 ∧ win0_1.index t 1 = win0_2.index t 1) t

/-- The weight that the launch finds is the argument. -/
theorem weight (c : Dev nD) : (V m c main_v0 : S4096x2048.Idx → EReal) = m ((c : Thread nD τ).loc main_arg1) := by
  have e : V m c main_v0 = truncf (F := Ideal) .bf16 (m ((c : Thread nD τ).loc main_arg1) : FVec Ideal S4096x2048 .f32) bitsLt_bf16_f32 := by
    unfold V hostOps0; after_results
  exact e

/-- After the launch the result array holds the reference's product, element by element. -/
theorem final (c : Dev nD) : (dats m 0 c).arrAt 2 cfg0.N
    = Cert.RefPeerQIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (Cert.Dense.block_apply (M := 1024) (K := 4096) (N := 512) (iblk m c 0 t) (iblk m c 1 t) shapeCasts_S4096x512_S4096x512 y).trans ?_
  rw [Cert.RefPeerQIdeal.Read.val_main_v2_apply, Cert.RefPeerQIdeal.Read.val_main_v1_apply]
  obtain ⟨e0, e1, e2, e3⟩ := idx t
  have p0 : (((win0_2.blk t).view.emb y) 0 : ℕ) = win0_2.index t 0 * 1024 + (y 0 : ℕ) := by blk_simp
  have p1 : (((win0_2.blk t).view.emb y) 1 : ℕ) = win0_2.index t 1 * 512 + (y 1 : ℕ) := by blk_simp
  refine Finset.sum_congr rfl fun k _ => congrArg₂ (fun a b : EReal => a * b) ?_ ?_
  · show (V m c main_arg0 : S8192x4096.Idx → EReal) _ = _
    rw [V_main_arg0]
    refine congrArg (m ((c : Thread nD τ).loc main_arg0) : S8192x4096.Idx → EReal) (funext fun a => Fin.ext ?_)
    match a with
    | ⟨0, _⟩ => blk_simp [e0]; exact p0.symm
    | ⟨1, _⟩ => blk_simp [e1]
  · show (V m c main_v0 : S4096x2048.Idx → EReal) _ = _
    rw [weight]
    refine congrArg (m ((c : Thread nD τ).loc main_arg1) : S4096x2048.Idx → EReal) (funext fun a => Fin.ext ?_)
    match a with
    | ⟨0, _⟩ => blk_simp [e2]
    | ⟨1, _⟩ => blk_simp [e3]; exact p1.symm

/-- So every run of the program ends with the reference's product in the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1)
        = Cert.RefPeerQIdeal.Read.val_main_v2 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.PeerQIdeal.Value.run_blocks m ρ)

end Cert.PeerQIdeal.Product
end
-- ==== Proof.Products.lean ====
/-
  The claims about the four dense products: their references' frames, and the equality of each launch with its
  reference.
-/
module

public import proofs.«01_k».proof.Defs
public import proofs.«01_k».proof.Proof.InA
public import proofs.«01_k».proof.Proof.InC
public import proofs.«01_k».proof.Proof.Out
public import proofs.«01_k».proof.Proof.PeerQ
public import Idealize.ShloMosaic.Lib.Quiescent

@[expose] public section

noncomputable section

namespace Cert.Proof.Products

open Idealize.ShloMosaic Idealize.SL.Sem

/-- The reference of the first input projection ends, leaves its arguments unchanged, and has no semaphore. -/
theorem frame_ref_InA : Cert.quiescent_RefInAIdeal := fun m ρ _ =>
  (θ_run Cert.RefInAIdeal.defs _ _).mono (fun r h => ⟨fun c => ⟨(h c).2.1, (h c).2.2⟩, sem_eq_zero_of_no_sems (by decide) r.2⟩)
    (Cert.RefInAIdeal.Value.run (F := Ideal) m ρ)

/-- The first input projection: launch and reference leave the same array. -/
theorem algebraic_InA : Cert.algebraic_InAIdeal_RefInAIdeal := by
  intro m ρ m' ρ' _ hagree
  refine ⟨fun c => Cert.RefInAIdeal.Read.val_main_v2 (F := Ideal)
      (m ((c.tc : Thread Cert.InAIdeal.nD Cert.InAIdeal.τ).loc Cert.InAIdeal.main_arg0))
      (m ((c.tc : Thread Cert.InAIdeal.nD Cert.InAIdeal.τ).loc Cert.InAIdeal.main_arg1)),
    Cert.InAIdeal.Product.run m ρ, ?_⟩
  refine (θ_run Cert.RefInAIdeal.defs _ _).mono (fun _ h c => ⟨(h c).1.trans ?_, (h c).2⟩)
    (Cert.RefInAIdeal.Value.run (F := Ideal) m' ρ')
  rw [(hagree c).1, (hagree c).2]
  exact Cert.RefInAIdeal.Read.val_main_v2_eq _ _

/-- The reference of the last input projection ends, leaves its arguments unchanged, and has no semaphore. -/
theorem frame_ref_InC : Cert.quiescent_RefInCIdeal := fun m ρ _ =>
  (θ_run Cert.RefInCIdeal.defs _ _).mono (fun r h => ⟨fun c => ⟨(h c).2.1, (h c).2.2⟩, sem_eq_zero_of_no_sems (by decide) r.2⟩)
    (Cert.RefInCIdeal.Value.run (F := Ideal) m ρ)

/-- The last input projection: launch and reference leave the same array. -/
theorem algebraic_InC : Cert.algebraic_InCIdeal_RefInCIdeal := by
  intro m ρ m' ρ' _ hagree
  refine ⟨fun c => Cert.RefInCIdeal.Read.val_main_v3 (F := Ideal)
      (m ((c.tc : Thread Cert.InCIdeal.nD Cert.InCIdeal.τ).loc Cert.InCIdeal.main_arg0))
      (m ((c.tc : Thread Cert.InCIdeal.nD Cert.InCIdeal.τ).loc Cert.InCIdeal.main_arg1)),
    Cert.InCIdeal.Product.run m ρ, ?_⟩
  refine (θ_run Cert.RefInCIdeal.defs _ _).mono (fun _ h c => ⟨(h c).1.trans ?_, (h c).2⟩)
    (Cert.RefInCIdeal.Value.run (F := Ideal) m' ρ')
  rw [(hagree c).1, (hagree c).2]
  exact Cert.RefInCIdeal.Read.val_main_v3_eq _ _

/-- The reference of the output projection ends, leaves its arguments unchanged, and has no semaphore. -/
theorem frame_ref_Out : Cert.quiescent_RefOutIdeal := fun m ρ _ =>
  (θ_run Cert.RefOutIdeal.defs _ _).mono (fun r h => ⟨fun c => ⟨(h c).2.1, (h c).2.2.1, (h c).2.2.2⟩, sem_eq_zero_of_no_sems (by decide) r.2⟩)
    (Cert.RefOutIdeal.Value.run (F := Ideal) m ρ)

/-- The output projection: launch and reference leave the same array. -/
theorem algebraic_Out : Cert.algebraic_OutIdeal_RefOutIdeal := by
  intro m ρ m' ρ' _ hagree
  refine ⟨fun c => Cert.RefOutIdeal.Read.val_main_v2 (F := Ideal)
      (m ((c.tc : Thread Cert.OutIdeal.nD Cert.OutIdeal.τ).loc Cert.OutIdeal.main_arg0))
      (m ((c.tc : Thread Cert.OutIdeal.nD Cert.OutIdeal.τ).loc Cert.OutIdeal.main_arg1))
        (m ((c.tc : Thread Cert.OutIdeal.nD Cert.OutIdeal.τ).loc Cert.OutIdeal.main_arg2)),
    Cert.OutIdeal.Product.run m ρ, ?_⟩
  refine (θ_run Cert.RefOutIdeal.defs _ _).mono (fun _ h c => ⟨(h c).1.trans ?_, (h c).2⟩)
    (Cert.RefOutIdeal.Value.run (F := Ideal) m' ρ')
  rw [(hagree c).1, (hagree c).2.1, (hagree c).2.2]
  exact Cert.RefOutIdeal.Read.val_main_v2_eq _ _ _

/-- The reference of the query projection ends, leaves its arguments unchanged, and has no semaphore. -/
theorem frame_ref_PeerQ : Cert.quiescent_RefPeerQIdeal := fun m ρ _ =>
  (θ_run Cert.RefPeerQIdeal.defs _ _).mono (fun r h => ⟨fun c => ⟨(h c).2.1, (h c).2.2⟩, sem_eq_zero_of_no_sems (by decide) r.2⟩)
    (Cert.RefPeerQIdeal.Value.run (F := Ideal) m ρ)

/-- The query projection: launch and reference leave the same array. -/
theorem algebraic_PeerQ : Cert.algebraic_PeerQIdeal_RefPeerQIdeal := by
  intro m ρ m' ρ' _ hagree
  refine ⟨fun c => Cert.RefPeerQIdeal.Read.val_main_v2 (F := Ideal)
      (m ((c.tc : Thread Cert.PeerQIdeal.nD Cert.PeerQIdeal.τ).loc Cert.PeerQIdeal.main_arg0))
      (m ((c.tc : Thread Cert.PeerQIdeal.nD Cert.PeerQIdeal.τ).loc Cert.PeerQIdeal.main_arg1)),
    Cert.PeerQIdeal.Product.run m ρ, ?_⟩
  refine (θ_run Cert.RefPeerQIdeal.defs _ _).mono (fun _ h c => ⟨(h c).1.trans ?_, (h c).2⟩)
    (Cert.RefPeerQIdeal.Value.run (F := Ideal) m' ρ')
  rw [(hagree c).1, (hagree c).2]
  exact Cert.RefPeerQIdeal.Read.val_main_v2_eq _ _

end Cert.Proof.Products

end
-- ==== Proof.RowNorm.lean ====
/-
  The root-mean-square norm of a row, as the layer's norms compute it: the row times the reciprocal root of its mean
  square plus a small constant, times a gain. A kernel's vector operations and the host's, each read at one element.
-/
module

public import Idealize.ShloMosaic.Lib.Pipeline.Value
public import Idealize.ShloMosaic.Lib.Pointwise.Reshape
public import Idealize.ShloMosaic.PureOps.Ideal.Laws
public import Idealize.ShloMosaic.Lib.ValueIdx

@[expose] public section

noncomputable section

namespace Cert.RowNorm

open Idealize.ShloMosaic

/-- Element `j` of the row `x` normed: its sum of squares is divided by `d`, `e` is added, and the element is
    multiplied by the reciprocal root of that and by the gain `g`. -/
def normed {D : ℕ} (d e : BitVec 32) (x : Fin D → EReal) (g : EReal) (j : Fin D) : EReal :=
  x j * Ideal.rsqrt (Ideal.div (∑ k : Fin D, x k * x k) (Ideal.ofBits .f32 d) + Ideal.ofBits .f32 e) * g

/-- The coordinate that a broadcast along an axis of `n` reads. -/
theorem broadcast_coordinate {n : ℕ} (r : Fin n) : r.val = if n = 1 then 0 else r.val := by
  have := r.isLt
  split_ifs <;> omega

section Kernel

variable {R D : ℕ} (d e : BitVec 32) (x : FVec Ideal ⟨2, ![R, D]⟩ .f32) (g : FVec Ideal ⟨2, ![1, D]⟩ .f32)
  (hr : (⟨2, ![R, D]⟩ : Shape).Reduces [1] ⟨1, ![R]⟩) (hc : (⟨1, ![R]⟩ : Shape).ShapeCasts ⟨2, ![R, 1]⟩)
  (hb : (⟨2, ![R, 1]⟩ : Shape).Broadcasts ⟨2, ![R, D]⟩) (hs : (⟨2, ![1, D]⟩ : Shape).ShapeCasts ⟨2, ![1, D]⟩)
  (hg : (⟨2, ![1, D]⟩ : Shape).Broadcasts ⟨2, ![R, D]⟩)

/-- The norm of a block's rows in a kernel's operations. -/
abbrev kernel : FVec Ideal ⟨2, ![R, D]⟩ .f32 :=
  mulf (mulf x (broadcastTo ⟨2, ![R, D]⟩ (rsqrt (addf (divf (shapeCast ⟨2, ![R, 1]⟩
      (multiReduction .add [1] ⟨1, ![R]⟩ (mulf x x) 0x00000000#32 hr (.inl rfl) rfl) hc)
      (broadcast ⟨2, ![R, 1]⟩ (Scalar.ofBits .f32 d))) (broadcast ⟨2, ![R, 1]⟩ (Scalar.ofBits .f32 e)))) hb))
    (broadcastTo ⟨2, ![R, D]⟩ (shapeCast ⟨2, ![1, D]⟩ g hs) hg)

/-- A row's sum of squares, in a column beside the rows. -/
theorem kernel_squares (r : Fin R) :
    shapeCast ⟨2, ![R, 1]⟩ (multiReduction .add [1] ⟨1, ![R]⟩ (mulf x x) 0x00000000#32 hr (.inl rfl) rfl) hc (ValueIdx.ix2 r 0)
      = ∑ k : Fin D, x (ValueIdx.ix2 r k) * x (ValueIdx.ix2 r k) := by
  refine (shapeCast_apply _ hc (ValueIdx.ix2 r 0) (ValueIdx.ix1 r) ?_).trans
    ((Ideal.multiReduction_add_single _ _ hr _ _ _).trans (Finset.sum_congr rfl fun k _ => ?_))
  · rw [rowMajor_val1, rowMajor_val2 _ 1 rfl]
    show r.val = r.val * 1 + 0
    omega
  · have e : hr.lift (ValueIdx.ix1 r) k = ValueIdx.ix2 r k := by
      funext a
      match a with
      | ⟨0, _⟩ => exact Fin.ext rfl
      | ⟨1, _⟩ => exact Fin.ext rfl
    rw [e]
    rfl

/-- A row laid under every row of the block. -/
theorem kernel_gain (r : Fin R) (j : Fin D) :
    broadcastTo ⟨2, ![R, D]⟩ (shapeCast ⟨2, ![1, D]⟩ g hs) hg (ValueIdx.ix2 r j) = g (ValueIdx.ix2 0 j) := by
  rw [shapeCast_self]
  refine broadcastTo_apply _ hg (ValueIdx.ix2 r j) (ValueIdx.ix2 0 j) fun a => ?_
  match a with
  | ⟨0, _⟩ => rfl
  | ⟨1, _⟩ => exact broadcast_coordinate j

/-- A kernel's norm at one element is the row's norm. -/
theorem kernel_apply (r : Fin R) (j : Fin D) :
    kernel d e x g hr hc hb hs hg (ValueIdx.ix2 r j) = normed d e (fun k => x (ValueIdx.ix2 r k)) (g (ValueIdx.ix2 0 j)) j := by
  unfold normed
  rw [← kernel_squares x hr hc r, ← kernel_gain g hs hg r j]
  refine congrArg (fun s : EReal => x (ValueIdx.ix2 r j) * s * _) ?_
  refine (broadcastTo_apply _ hb (ValueIdx.ix2 r j) (ValueIdx.ix2 r 0) fun a => ?_).trans rfl
  match a with
  | ⟨0, _⟩ => exact broadcast_coordinate r
  | ⟨1, _⟩ => rfl

end Kernel

section Host

variable {R D : ℕ} (d e : BitVec 32) (x : FVec Ideal ⟨2, ![R, D]⟩ .f32) (g : FVec Ideal ⟨1, ![D]⟩ .f32)
  (hr : (⟨2, ![R, D]⟩ : Shape).ReducesTo [1] ⟨1, ![R]⟩) (hr' : (⟨2, ![R, D]⟩ : Shape).Reduces [1] ⟨1, ![R]⟩)
  (h0 : 0 < (⟨0, ![]⟩ : Shape).numel)
  (hc : (⟨1, ![R]⟩ : Shape).BroadcastsInDim ⟨2, ![R, 1]⟩ (![0] : Fin 1 → Fin 2))
  (hd : (⟨0, ![]⟩ : Shape).BroadcastsInDim ⟨2, ![R, 1]⟩ (![] : Fin 0 → Fin 2))
  (hb : (⟨2, ![R, 1]⟩ : Shape).BroadcastsInDim ⟨2, ![R, D]⟩ (![0, 1] : Fin 2 → Fin 2))
  (hs : (⟨1, ![D]⟩ : Shape).BroadcastsInDim ⟨2, ![1, D]⟩ (![1] : Fin 1 → Fin 2))
  (hg : (⟨2, ![1, D]⟩ : Shape).BroadcastsInDim ⟨2, ![R, D]⟩ (![0, 1] : Fin 2 → Fin 2))

/-- The norm of an array's rows in the host's operations. -/
abbrev host : FVec Ideal ⟨2, ![R, D]⟩ .f32 :=
  mulf (mulf x (broadcastInDim ⟨2, ![R, D]⟩ ![0, 1] hb (Host.rsqrt (addf (Host.divf
      (broadcastInDim ⟨2, ![R, 1]⟩ ![0] hc (Host.reduceAdd (mulf x x) (constant ⟨0, ![]⟩ .f32 0x00000000#32) hr h0))
      (broadcastInDim ⟨2, ![R, 1]⟩ ![] hd (constant ⟨0, ![]⟩ .f32 d))) (broadcastInDim ⟨2, ![R, 1]⟩ ![] hd (constant ⟨0, ![]⟩ .f32 e))))))
    (broadcastInDim ⟨2, ![R, D]⟩ ![0, 1] hg (broadcastInDim ⟨2, ![1, D]⟩ ![1] hs g))

include hr' in
/-- A row's sum of squares, in a column beside the rows. -/
theorem host_squares (r : Fin R) :
    broadcastInDim ⟨2, ![R, 1]⟩ ![0] hc (Host.reduceAdd (mulf x x) (constant ⟨0, ![]⟩ .f32 0x00000000#32) hr h0) (ValueIdx.ix2 r 0)
      = ∑ k : Fin D, x (ValueIdx.ix2 r k) * x (ValueIdx.ix2 r k) := by
  refine (broadcastInDim_apply _ hc _ (ValueIdx.ix2 r 0) (ValueIdx.ix1 r) fun a => ?_).trans ?_
  · match a with
    | ⟨0, _⟩ => exact broadcast_coordinate r
  refine (Ideal.hostReduceAdd_single hr hr' _ _ _).trans (((congrArg (· + _) Ideal.ofBits_zero_f32).trans (zero_add _)).trans
    (Finset.sum_congr rfl fun k _ => ?_))
  have e : hr'.lift (ValueIdx.ix1 r) k = ValueIdx.ix2 r k := by
    funext a
    match a with
    | ⟨0, _⟩ => exact Fin.ext rfl
    | ⟨1, _⟩ => exact Fin.ext rfl
  rw [e]
  rfl

/-- A gain laid along every row. -/
theorem host_gain (r : Fin R) (j : Fin D) :
    broadcastInDim ⟨2, ![R, D]⟩ ![0, 1] hg (broadcastInDim ⟨2, ![1, D]⟩ ![1] hs g) (ValueIdx.ix2 r j) = g (ValueIdx.ix1 j) := by
  refine (broadcastInDim_apply _ hg _ (ValueIdx.ix2 r j) (ValueIdx.ix2 0 j) fun a => ?_).trans
    (broadcastInDim_apply _ hs g (ValueIdx.ix2 0 j) (ValueIdx.ix1 j) fun a => ?_)
  · match a with
    | ⟨0, _⟩ => rfl
    | ⟨1, _⟩ => exact broadcast_coordinate j
  · match a with
    | ⟨0, _⟩ => exact broadcast_coordinate j

include hr' in
/-- The host's norm at one element is the row's norm. -/
theorem host_apply (r : Fin R) (j : Fin D) :
    host d e x g hr h0 hc hd hb hs hg (ValueIdx.ix2 r j) = normed d e (fun k => x (ValueIdx.ix2 r k)) (g (ValueIdx.ix1 j)) j := by
  unfold normed
  rw [← host_squares x hr hr' h0 hc r, ← host_gain g hs hg r j]
  refine congrArg (fun s : EReal => x (ValueIdx.ix2 r j) * s * _) ?_
  refine (broadcastInDim_apply _ hb _ (ValueIdx.ix2 r j) (ValueIdx.ix2 r 0) fun a => ?_).trans rfl
  match a with
  | ⟨0, _⟩ => exact broadcast_coordinate r
  | ⟨1, _⟩ => rfl

end Host

/-- A vector laid out as a row keeps its elements. -/
theorem vector_row {D : ℕ} (g : FVec Ideal ⟨1, ![D]⟩ .f32) (h : (⟨1, ![D]⟩ : Shape).ShapeCasts ⟨2, ![1, D]⟩) (j : Fin D) :
    shapeCast ⟨2, ![1, D]⟩ g h (ValueIdx.ix2 0 j) = g (ValueIdx.ix1 j) :=
  shapeCast_apply _ _ _ (ValueIdx.ix1 j) (by rw [rowMajor_val1, rowMajor_val2 _ D rfl]; show j.val = 0 * D + j.val; omega)

/-- A kernel's norm of a block, at an element, is the host's norm of the whole array at the element `i` that the block's
    element `y` lands on: what has to be known is that the two rows agree and that the two gains do. -/
theorem kernel_eq_host {R N D : ℕ} (d e : BitVec 32) (x : FVec Ideal ⟨2, ![R, D]⟩ .f32) (g : FVec Ideal ⟨2, ![1, D]⟩ .f32)
    (X : FVec Ideal ⟨2, ![N, D]⟩ .f32) (G : FVec Ideal ⟨1, ![D]⟩ .f32)
    (kr : (⟨2, ![R, D]⟩ : Shape).Reduces [1] ⟨1, ![R]⟩) (kc : (⟨1, ![R]⟩ : Shape).ShapeCasts ⟨2, ![R, 1]⟩)
    (kb : (⟨2, ![R, 1]⟩ : Shape).Broadcasts ⟨2, ![R, D]⟩) (ks : (⟨2, ![1, D]⟩ : Shape).ShapeCasts ⟨2, ![1, D]⟩)
    (kg : (⟨2, ![1, D]⟩ : Shape).Broadcasts ⟨2, ![R, D]⟩)
    (hr : (⟨2, ![N, D]⟩ : Shape).ReducesTo [1] ⟨1, ![N]⟩) (hr' : (⟨2, ![N, D]⟩ : Shape).Reduces [1] ⟨1, ![N]⟩)
    (h0 : 0 < (⟨0, ![]⟩ : Shape).numel)
    (hc : (⟨1, ![N]⟩ : Shape).BroadcastsInDim ⟨2, ![N, 1]⟩ (![0] : Fin 1 → Fin 2))
    (hd : (⟨0, ![]⟩ : Shape).BroadcastsInDim ⟨2, ![N, 1]⟩ (![] : Fin 0 → Fin 2))
    (hb : (⟨2, ![N, 1]⟩ : Shape).BroadcastsInDim ⟨2, ![N, D]⟩ (![0, 1] : Fin 2 → Fin 2))
    (hs : (⟨1, ![D]⟩ : Shape).BroadcastsInDim ⟨2, ![1, D]⟩ (![1] : Fin 1 → Fin 2))
    (hg : (⟨2, ![1, D]⟩ : Shape).BroadcastsInDim ⟨2, ![N, D]⟩ (![0, 1] : Fin 2 → Fin 2))
    (y : (⟨2, ![R, D]⟩ : Shape).Idx) (i : (⟨2, ![N, D]⟩ : Shape).Idx) (hi : (i 1).val = (y 1).val)
    (hx : ∀ k : Fin D, x (ValueIdx.ix2 (y 0) k) = X (ValueIdx.ix2 (i 0) k)) (hG : g (ValueIdx.ix2 0 (y 1)) = G (ValueIdx.ix1 (y 1))) :
    kernel d e x g kr kc kb ks kg y = host d e X G hr h0 hc hd hb hs hg i := by
  have e1 : i = ValueIdx.ix2 (i 0) (y 1) := (ValueIdx.eq_ix2 i).trans (congrArg (fun j : Fin D => ValueIdx.ix2 (i 0) j) (Fin.ext hi))
  refine ((congrArg (kernel d e x g kr kc kb ks kg) (ValueIdx.eq_ix2 y)).trans (kernel_apply d e x g kr kc kb ks kg (y 0) (y 1))).trans
    (Eq.trans ?_ ((congrArg (host d e X G hr h0 hc hd hb hs hg) e1).trans (host_apply d e X G hr hr' h0 hc hd hb hs hg (i 0) (y 1))).symm)
  rw [hG]
  exact congrArg (fun f : Fin D → EReal => normed d e f (G (ValueIdx.ix1 (y 1))) (y 1)) (funext hx)

end Cert.RowNorm

end
-- ==== Proof.NormIn.lean ====
/-
  The layer's first norm: what the launch's result array holds is the reference's norm of its argument's rows.
-/
module

public import proofs.«01_k».proof.Proof.RowNorm
public import proofs.«01_k».proof.Proof.Gen.NormInIdeal.Value
public import proofs.«01_k».proof.Proof.Gen.RefNormInIdeal.Read
public import Idealize.ShloMosaic.Lib.Pipeline.ValueKit
public import Idealize.ShloMosaic.Lib.Quiescent

@[expose] public section

set_option maxRecDepth 16384

noncomputable section

namespace Cert.NormInIdeal.Norm

open Cert.NormInIdeal Cert.NormInIdeal.Gen Idealize.ShloMosaic Idealize.ShloMosaic.TcCoe Idealize.SL.Sem
open Idealize.ShloMosaic.Pipeline (Dat)
open Cert.RowNorm

variable (m : (ℓ : Loc nD τ sig) → Buf (Elt Ideal) ℓ)

/-- The gain that the launch finds is the argument, laid out as a row. -/
theorem gain (c : Dev nD) : (V m c main_v0 : S1x4096.Idx → EReal)
    = shapeCast S1x4096 (m ((c : Thread nD τ).loc main_arg1) : FVec Ideal S4096 .f32) shapeCasts_S4096_S1x4096 := by
  unfold V hostOps0; after_results
  rfl

/-- The row window moves with the result's; the gain's window stays. -/
theorem idx (t : Fin cfg0.N) : win0_0.index t 0 = win0_2.index t 0 ∧ win0_0.index t 1 = 0
    ∧ win0_1.index t 0 = 0 ∧ win0_1.index t 1 = 0 ∧ win0_2.index t 1 = 0 :=
  (by decide +kernel : ∀ t : Fin grid0.N, win0_0.index t 0 = win0_2.index t 0 ∧ win0_0.index t 1 = 0
    ∧ win0_1.index t 0 = 0 ∧ win0_1.index t 1 = 0 ∧ win0_2.index t 1 = 0) t

/-- After the launch the result array holds the reference's norm, element by element. -/
theorem final (c : Dev nD) : (dats m 0 c).arrAt 2 cfg0.N
    = Cert.RefNormInIdeal.Read.val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨e0, e1, e2, e3, e4⟩ := idx t
  have p0 : (((win0_2.blk t).view.emb y) 0 : ℕ) = win0_2.index t 0 * 256 + (y 0 : ℕ) := by blk_simp
  refine kernel_eq_host 0x45800000#32 0x358637BD#32 (iblk m c 0 t) (iblk m c 1 t) (m ((c : Thread nD τ).loc main_arg0))
    (m ((c : Thread nD τ).loc main_arg1)) reduces_S256x4096_S256 shapeCasts_S256_S256x1 broadcasts_S256x1_S256x4096
    shapeCasts_S1x4096_S1x4096 broadcasts_S1x4096_S256x4096 _ (by decide) _ _ _ _ _ _ y _ (by blk_simp [e4]) (fun k => ?_) ?_
  · show (V m c main_arg0 : S8192x4096.Idx → EReal) _ = _
    rw [V_main_arg0]
    refine congrArg (m ((c : Thread nD τ).loc main_arg0) : S8192x4096.Idx → EReal) (funext fun a => Fin.ext ?_)
    match a with
    | ⟨0, _⟩ => blk_simp [e0]; exact p0.symm
    | ⟨1, _⟩ => blk_simp [e1]
  · refine Eq.trans ?_ ((congrFun (gain m c) (ValueIdx.ix2 0 (y 1))).trans (vector_row _ _ (y 1)))
    show (V m c main_v0 : S1x4096.Idx → EReal) _ = _
    refine congrArg (V m c main_v0 : S1x4096.Idx → EReal) (funext fun a => Fin.ext ?_)
    match a with
    | ⟨0, _⟩ => blk_simp [e2]
    | ⟨1, _⟩ => blk_simp [e3]

/-- So every run of the program ends with the reference's norm in the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1)
        = Cert.RefNormInIdeal.Read.val_main_v13 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.NormInIdeal.Value.run_blocks m ρ)

end Cert.NormInIdeal.Norm
end
-- ==== Proof.NormAtt.lean ====
/-
  The norm after the attention: what the launch's result array holds is the reference's norm of its argument's rows.
-/
module

public import proofs.«01_k».proof.Proof.RowNorm
public import proofs.«01_k».proof.Proof.Gen.NormAttIdeal.Value
public import proofs.«01_k».proof.Proof.Gen.RefNormAttIdeal.Read
public import Idealize.ShloMosaic.Lib.Pipeline.ValueKit
public import Idealize.ShloMosaic.Lib.Quiescent

@[expose] public section

set_option maxRecDepth 16384

noncomputable section

namespace Cert.NormAttIdeal.Norm

open Cert.NormAttIdeal Cert.NormAttIdeal.Gen Idealize.ShloMosaic Idealize.ShloMosaic.TcCoe Idealize.SL.Sem
open Idealize.ShloMosaic.Pipeline (Dat)
open Cert.RowNorm

variable (m : (ℓ : Loc nD τ sig) → Buf (Elt Ideal) ℓ)

/-- The gain that the launch finds is the argument, laid out as a row. -/
theorem gain (c : Dev nD) : (V m c main_v0 : S1x2048.Idx → EReal)
    = shapeCast S1x2048 (m ((c : Thread nD τ).loc main_arg1) : FVec Ideal S2048 .f32) shapeCasts_S2048_S1x2048 := by
  unfold V hostOps0; after_results
  rfl

/-- The row window moves with the result's; the gain's window stays. -/
theorem idx (t : Fin cfg0.N) : win0_0.index t 0 = win0_2.index t 0 ∧ win0_0.index t 1 = 0
    ∧ win0_1.index t 0 = 0 ∧ win0_1.index t 1 = 0 ∧ win0_2.index t 1 = 0 :=
  (by decide +kernel : ∀ t : Fin grid0.N, win0_0.index t 0 = win0_2.index t 0 ∧ win0_0.index t 1 = 0
    ∧ win0_1.index t 0 = 0 ∧ win0_1.index t 1 = 0 ∧ win0_2.index t 1 = 0) t

/-- After the launch the result array holds the reference's norm, element by element. -/
theorem final (c : Dev nD) : (dats m 0 c).arrAt 2 cfg0.N
    = Cert.RefNormAttIdeal.Read.val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨e0, e1, e2, e3, e4⟩ := idx t
  have p0 : (((win0_2.blk t).view.emb y) 0 : ℕ) = win0_2.index t 0 * 256 + (y 0 : ℕ) := by blk_simp
  refine kernel_eq_host 0x45000000#32 0x358637BD#32 (iblk m c 0 t) (iblk m c 1 t) (m ((c : Thread nD τ).loc main_arg0))
    (m ((c : Thread nD τ).loc main_arg1)) reduces_S256x2048_S256 shapeCasts_S256_S256x1 broadcasts_S256x1_S256x2048
    shapeCasts_S1x2048_S1x2048 broadcasts_S1x2048_S256x2048 _ (by decide) _ _ _ _ _ _ y _ (by blk_simp [e4]) (fun k => ?_) ?_
  · show (V m c main_arg0 : S8192x2048.Idx → EReal) _ = _
    rw [V_main_arg0]
    refine congrArg (m ((c : Thread nD τ).loc main_arg0) : S8192x2048.Idx → EReal) (funext fun a => Fin.ext ?_)
    match a with
    | ⟨0, _⟩ => blk_simp [e0]; exact p0.symm
    | ⟨1, _⟩ => blk_simp [e1]
  · refine Eq.trans ?_ ((congrFun (gain m c) (ValueIdx.ix2 0 (y 1))).trans (vector_row _ _ (y 1)))
    show (V m c main_v0 : S1x2048.Idx → EReal) _ = _
    refine congrArg (V m c main_v0 : S1x2048.Idx → EReal) (funext fun a => Fin.ext ?_)
    match a with
    | ⟨0, _⟩ => blk_simp [e2]
    | ⟨1, _⟩ => blk_simp [e3]

/-- So every run of the program ends with the reference's norm in the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1)
        = Cert.RefNormAttIdeal.Read.val_main_v13 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.NormAttIdeal.Value.run_blocks m ρ)

end Cert.NormAttIdeal.Norm
end
-- ==== Proof.NormNext.lean ====
/-
  The residual sum before the feed-forward part and its norm: what the launch's two result arrays hold is the reference's.
-/
module

public import proofs.«01_k».proof.Proof.RowNorm
public import proofs.«01_k».proof.Proof.Gen.NormNextIdeal.Value
public import proofs.«01_k».proof.Proof.Gen.RefNormNextIdeal.Read
public import Idealize.ShloMosaic.Lib.Pipeline.ValueKit
public import Idealize.ShloMosaic.Lib.Quiescent

@[expose] public section

set_option maxRecDepth 16384

noncomputable section

namespace Cert.NormNextIdeal.Norm

open Cert.NormNextIdeal Cert.NormNextIdeal.Gen Idealize.ShloMosaic Idealize.ShloMosaic.TcCoe Idealize.SL.Sem
open Idealize.ShloMosaic.Pipeline (Dat)
open Cert.RowNorm

variable (m : (ℓ : Loc nD τ sig) → Buf (Elt Ideal) ℓ)

/-- The gain that the launch finds is the argument, laid out as a row. -/
theorem gain (c : Dev nD) : (V m c main_v0 : S1x4096.Idx → EReal)
    = shapeCast S1x4096 (m ((c : Thread nD τ).loc main_arg2) : FVec Ideal S4096 .f32) shapeCasts_S4096_S1x4096 := by
  unfold V hostOps0; after_results
  rfl

/-- Both row windows move with the result's; the gain's window stays. -/
theorem idx (t : Fin cfg0.N) : win0_0.index t 0 = win0_4.index t 0 ∧ win0_0.index t 1 = 0 ∧ win0_1.index t 0 = win0_4.index t 0
    ∧ win0_1.index t 1 = 0 ∧ win0_2.index t 0 = 0 ∧ win0_2.index t 1 = 0 ∧ win0_3.index t 1 = 0 ∧ win0_4.index t 1 = 0 ∧ win0_3.index t 0 = win0_4.index t 0 :=
  (by decide +kernel : ∀ t : Fin grid0.N, win0_0.index t 0 = win0_4.index t 0 ∧ win0_0.index t 1 = 0 ∧ win0_1.index t 0 = win0_4.index t 0
    ∧ win0_1.index t 1 = 0 ∧ win0_2.index t 0 = 0 ∧ win0_2.index t 1 = 0 ∧ win0_3.index t 1 = 0 ∧ win0_4.index t 1 = 0 ∧ win0_3.index t 0 = win0_4.index t 0) t

/-- The first summand's block at an element is the argument's element. -/
theorem left (c : Dev nD) (t : Fin cfg0.N) (r : Fin 256) (k : Fin 4096) (i : Fin 8192) (h : i.val = win0_4.index t 0 * 256 + r.val) :
    iblk m c 0 t (ValueIdx.ix2 r k) = m ((c : Thread nD τ).loc main_arg0) (ValueIdx.ix2 i k) := by
  obtain ⟨e0, e1, -⟩ := idx t
  show (V m c main_arg0 : S8192x4096.Idx → EReal) _ = _
  rw [V_main_arg0]
  refine congrArg (m ((c : Thread nD τ).loc main_arg0) : S8192x4096.Idx → EReal) (funext fun a => Fin.ext ?_)
  match a with
  | ⟨0, _⟩ => blk_simp [e0]; exact h.symm
  | ⟨1, _⟩ => blk_simp [e1]

/-- The second summand's block at an element is the argument's element. -/
theorem right (c : Dev nD) (t : Fin cfg0.N) (r : Fin 256) (k : Fin 4096) (i : Fin 8192) (h : i.val = win0_4.index t 0 * 256 + r.val) :
    iblk m c 1 t (ValueIdx.ix2 r k) = m ((c : Thread nD τ).loc main_arg1) (ValueIdx.ix2 i k) := by
  obtain ⟨-, -, e0, e1, -⟩ := idx t
  show (V m c main_arg1 : S8192x4096.Idx → EReal) _ = _
  rw [V_main_arg1]
  refine congrArg (m ((c : Thread nD τ).loc main_arg1) : S8192x4096.Idx → EReal) (funext fun a => Fin.ext ?_)
  match a with
  | ⟨0, _⟩ => blk_simp [e0]; exact h.symm
  | ⟨1, _⟩ => blk_simp [e1]

/-- After the launch the result array holds the reference's norm, element by element. -/
theorem final (c : Dev nD) : (dats m 0 c).arrAt 4 cfg0.N
    = Cert.RefNormNextIdeal.Read.val_main_v14 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  rw [after0_4]
  frame_out
  obtain ⟨-, -, -, -, e2, e3, -, e4, -⟩ := idx t
  have p0 : (((win0_4.blk t).view.emb y) 0 : ℕ) = win0_4.index t 0 * 256 + (y 0 : ℕ) := by blk_simp
  refine kernel_eq_host 0x45800000#32 0x358637BD#32 (addf (F := Ideal) (φ := .f32) (iblk m c 0 t) (iblk m c 1 t)) (iblk m c 2 t)
    (addf (F := Ideal) (φ := .f32) (m ((c : Thread nD τ).loc main_arg0)) (m ((c : Thread nD τ).loc main_arg1)))
    (m ((c : Thread nD τ).loc main_arg2)) reduces_S256x4096_S256 shapeCasts_S256_S256x1 broadcasts_S256x1_S256x4096
    shapeCasts_S1x4096_S1x4096 broadcasts_S1x4096_S256x4096 _ (by decide) _ _ _ _ _ _ y _ (by blk_simp [e4]) (fun k => ?_) ?_
  · exact congrArg₂ (fun a b : EReal => a + b) (left m c t (y 0) k _ p0) (right m c t (y 0) k _ p0)
  · refine Eq.trans ?_ ((congrFun (gain m c) (ValueIdx.ix2 0 (y 1))).trans (vector_row _ _ (y 1)))
    show (V m c main_v0 : S1x4096.Idx → EReal) _ = _
    refine congrArg (V m c main_v0 : S1x4096.Idx → EReal) (funext fun a => Fin.ext ?_)
    match a with
    | ⟨0, _⟩ => blk_simp [e2]
    | ⟨1, _⟩ => blk_simp [e3]

/-- And the first result array holds the sum of the two arguments. -/
theorem final_sum (c : Dev nD) : (dats m 0 c).arrAt 3 cfg0.N
    = Cert.RefNormNextIdeal.Read.val_main_v0 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  obtain ⟨-, -, -, -, -, -, e3, -, e4⟩ := idx t
  have p0 : (((win0_3.blk t).view.emb y) 0 : ℕ) = win0_4.index t 0 * 256 + (y 0 : ℕ) := by blk_simp [e4]
  have p1 : ((win0_3.blk t).view.emb y) 1 = y 1 := Fin.ext (by blk_simp [e3])
  have py : (win0_3.blk t).view.emb y = ValueIdx.ix2 (((win0_3.blk t).view.emb y) 0) (y 1) := by
    refine (ValueIdx.eq_ix2 _).trans ?_
    rw [p1]; rfl
  rw [Cert.RefNormNextIdeal.Read.val_main_v0_apply, py]
  refine congrArg₂ (fun a b : EReal => a + b) ?_ ?_
  · exact (congrArg (iblk m c 0 t) (ValueIdx.eq_ix2 y)).trans (left m c t (y 0) (y 1) _ p0)
  · exact (congrArg (iblk m c 1 t) (ValueIdx.eq_ix2 y)).trans (right m c t (y 0) (y 1) _ p0)

/-- So every run of the program ends with the sum and its norm in the result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1_0)
        = Cert.RefNormNextIdeal.Read.val_main_v0 (F := Ideal) (m ((c : Thread nD τ).loc main_arg0)) (m ((c : Thread nD τ).loc main_arg1))
      ∧ r.2.mem ((c : Thread nD τ).loc main_v1_1)
        = Cert.RefNormNextIdeal.Read.val_main_v14 (F := Ideal) (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_sum m c), (h c).2.1.trans (final m c), (h c).2.2⟩)
    (Cert.NormNextIdeal.Value.run_blocks m ρ)

end Cert.NormNextIdeal.Norm
end
-- ==== Proof.NormFinal.lean ====
/-
  The layer's last norm: what the launch's result array holds is the reference's norm of the sum of its two arguments.
-/
module

public import proofs.«01_k».proof.Proof.RowNorm
public import proofs.«01_k».proof.Proof.Gen.NormFinalIdeal.Value
public import proofs.«01_k».proof.Proof.Gen.RefNormFinalIdeal.Read
public import Idealize.ShloMosaic.Lib.Pipeline.ValueKit
public import Idealize.ShloMosaic.Lib.Quiescent

@[expose] public section

set_option maxRecDepth 16384

noncomputable section

namespace Cert.NormFinalIdeal.Norm

open Cert.NormFinalIdeal Cert.NormFinalIdeal.Gen Idealize.ShloMosaic Idealize.ShloMosaic.TcCoe Idealize.SL.Sem
open Idealize.ShloMosaic.Pipeline (Dat)
open Cert.RowNorm

variable (m : (ℓ : Loc nD τ sig) → Buf (Elt Ideal) ℓ)

/-- The gain that the launch finds is the argument, laid out as a row. -/
theorem gain (c : Dev nD) : (V m c main_v0 : S1x4096.Idx → EReal)
    = shapeCast S1x4096 (m ((c : Thread nD τ).loc main_arg2) : FVec Ideal S4096 .f32) shapeCasts_S4096_S1x4096 := by
  unfold V hostOps0; after_results
  rfl

/-- Both row windows move with the result's; the gain's window stays. -/
theorem idx (t : Fin cfg0.N) : win0_0.index t 0 = win0_3.index t 0 ∧ win0_0.index t 1 = 0 ∧ win0_1.index t 0 = win0_3.index t 0
    ∧ win0_1.index t 1 = 0 ∧ win0_2.index t 0 = 0 ∧ win0_2.index t 1 = 0 ∧ win0_3.index t 1 = 0 :=
  (by decide +kernel : ∀ t : Fin grid0.N, win0_0.index t 0 = win0_3.index t 0 ∧ win0_0.index t 1 = 0 ∧ win0_1.index t 0 = win0_3.index t 0
    ∧ win0_1.index t 1 = 0 ∧ win0_2.index t 0 = 0 ∧ win0_2.index t 1 = 0 ∧ win0_3.index t 1 = 0) t

/-- The first summand's block at an element is the argument's element. -/
theorem left (c : Dev nD) (t : Fin cfg0.N) (r : Fin 256) (k : Fin 4096) (i : Fin 8192) (h : i.val = win0_3.index t 0 * 256 + r.val) :
    iblk m c 0 t (ValueIdx.ix2 r k) = m ((c : Thread nD τ).loc main_arg0) (ValueIdx.ix2 i k) := by
  obtain ⟨e0, e1, -⟩ := idx t
  show (V m c main_arg0 : S8192x4096.Idx → EReal) _ = _
  rw [V_main_arg0]
  refine congrArg (m ((c : Thread nD τ).loc main_arg0) : S8192x4096.Idx → EReal) (funext fun a => Fin.ext ?_)
  match a with
  | ⟨0, _⟩ => blk_simp [e0]; exact h.symm
  | ⟨1, _⟩ => blk_simp [e1]

/-- The second summand's block at an element is the argument's element. -/
theorem right (c : Dev nD) (t : Fin cfg0.N) (r : Fin 256) (k : Fin 4096) (i : Fin 8192) (h : i.val = win0_3.index t 0 * 256 + r.val) :
    iblk m c 1 t (ValueIdx.ix2 r k) = m ((c : Thread nD τ).loc main_arg1) (ValueIdx.ix2 i k) := by
  obtain ⟨-, -, e0, e1, -⟩ := idx t
  show (V m c main_arg1 : S8192x4096.Idx → EReal) _ = _
  rw [V_main_arg1]
  refine congrArg (m ((c : Thread nD τ).loc main_arg1) : S8192x4096.Idx → EReal) (funext fun a => Fin.ext ?_)
  match a with
  | ⟨0, _⟩ => blk_simp [e0]; exact h.symm
  | ⟨1, _⟩ => blk_simp [e1]

/-- After the launch the result array holds the reference's norm, element by element. -/
theorem final (c : Dev nD) : (dats m 0 c).arrAt 3 cfg0.N
    = Cert.RefNormFinalIdeal.Read.val_main_v13 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  frame_out
  obtain ⟨-, -, -, -, e2, e3, e4⟩ := idx t
  have p0 : (((win0_3.blk t).view.emb y) 0 : ℕ) = win0_3.index t 0 * 256 + (y 0 : ℕ) := by blk_simp
  refine kernel_eq_host 0x45800000#32 0x358637BD#32 (addf (F := Ideal) (φ := .f32) (iblk m c 0 t) (iblk m c 1 t)) (iblk m c 2 t)
    (addf (F := Ideal) (φ := .f32) (m ((c : Thread nD τ).loc main_arg0)) (m ((c : Thread nD τ).loc main_arg1)))
    (m ((c : Thread nD τ).loc main_arg2)) reduces_S256x4096_S256 shapeCasts_S256_S256x1 broadcasts_S256x1_S256x4096
    shapeCasts_S1x4096_S1x4096 broadcasts_S1x4096_S256x4096 _ (by decide) _ _ _ _ _ _ y _ (by blk_simp [e4]) (fun k => ?_) ?_
  · exact congrArg₂ (fun a b : EReal => a + b) (left m c t (y 0) k _ p0) (right m c t (y 0) k _ p0)
  · refine Eq.trans ?_ ((congrFun (gain m c) (ValueIdx.ix2 0 (y 1))).trans (vector_row _ _ (y 1)))
    show (V m c main_v0 : S1x4096.Idx → EReal) _ = _
    refine congrArg (V m c main_v0 : S1x4096.Idx → EReal) (funext fun a => Fin.ext ?_)
    match a with
    | ⟨0, _⟩ => blk_simp [e2]
    | ⟨1, _⟩ => blk_simp [e3]

/-- So every run of the program ends with the reference's norm in the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1)
        = Cert.RefNormFinalIdeal.Read.val_main_v13 (F := Ideal) (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.NormFinalIdeal.Value.run_blocks m ρ)

end Cert.NormFinalIdeal.Norm
end
-- ==== Proof.S5Post.lean ====
/-
  The state-space branch's gated unit: what the launch's result array holds is the reference's. The scan's output plus a
  scaled input goes through the tanh form of the smooth rectifier, is gated by the logistic of its product with a weight,
  and the row is normed.
-/
module

public import proofs.«01_k».proof.Proof.Dense
public import proofs.«01_k».proof.Proof.RowNorm
public import proofs.«01_k».proof.Proof.Gen.S5PostIdeal.Value
public import proofs.«01_k».proof.Proof.Gen.RefS5PostIdeal.Read
public import Idealize.ShloMosaic.Lib.Pipeline.ValueKit
public import Idealize.ShloMosaic.Lib.IdealHost
public import Idealize.ShloMosaic.Lib.Quiescent

@[expose] public section

set_option maxRecDepth 16384

noncomputable section

namespace Cert.S5PostIdeal.Gated

open Cert.S5PostIdeal Cert.S5PostIdeal.Gen Idealize.ShloMosaic Idealize.ShloMosaic.TcCoe Idealize.SL.Sem
open Idealize.ShloMosaic.Pipeline (Dat)
open Cert.RowNorm

/-- The tanh form of the smooth rectifier, the four constants being their float words. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- Element `j` of the gated row: the rectified row times the logistic of its product with a column of the weight. -/
def gated {D : ℕ} (h : Fin D → EReal) (w : Fin D → EReal) (j : Fin D) : EReal :=
  gelu (h j) * Ideal.logistic (∑ k : Fin D, gelu (h k) * w k)

/-- A block's rectified rows in the kernel's operations. -/
abbrev rectified (y : FVec Ideal S512x1024 .f32) (p : FVec Ideal S1x1024 .f32) (u : FVec Ideal S512x1024 .f32) : FVec Ideal S512x1024 .f32 :=
  have x : FVec Ideal S512x1024 .f32 := addf y (mulf (broadcastTo S512x1024 (shapeCast S1x1024 p shapeCasts_S1x1024_S1x1024) broadcasts_S1x1024_S512x1024) u)
  mulf x (mulf (broadcast S512x1024 (Scalar.ofBits .f32 0x3F000000#32)) (addf (broadcast S512x1024 (Scalar.ofBits .f32 0x3F800000#32))
    (tanh (mulf (broadcast S512x1024 (Scalar.ofBits .f32 0x3F4C422A#32)) (addf x (mulf (broadcast S512x1024 (Scalar.ofBits .f32 0x3D372713#32))
      (mulf x (mulf x x))))))))

/-- They are the rectifier of the scan's output plus the scaled input. -/
theorem rectified_apply (y : FVec Ideal S512x1024 .f32) (p : FVec Ideal S1x1024 .f32) (u : FVec Ideal S512x1024 .f32) (r : Fin 512) (j : Fin 1024) :
    rectified y p u (ValueIdx.ix2 r j) = gelu (y (ValueIdx.ix2 r j) + p (ValueIdx.ix2 0 j) * u (ValueIdx.ix2 r j)) :=
  congrArg (fun s : EReal => gelu (y (ValueIdx.ix2 r j) + s * u (ValueIdx.ix2 r j)))
    (kernel_gain p shapeCasts_S1x1024_S1x1024 broadcasts_S1x1024_S512x1024 r j)

/-- A block's gated rows in the kernel's operations. -/
abbrev unit (y : FVec Ideal S512x1024 .f32) (p : FVec Ideal S1x1024 .f32) (u : FVec Ideal S512x1024 .f32) (w : FVec Ideal S1024x1024 .bf16) :
    FVec Ideal S512x1024 .f32 :=
  mulf (rectified y p u) (logistic (matmul dot_S512x1024_S1024x1024_S512x1024_1_0_0_1_n_n none (truncf .bf16 (rectified y p u) bitsLt_bf16_f32)
    (shapeCast S1024x1024 w shapeCasts_S1024x1024_S1024x1024) (constant S512x1024 .f32 0x00000000#32)))

/-- They are the gated rows. -/
theorem unit_apply (y : FVec Ideal S512x1024 .f32) (p : FVec Ideal S1x1024 .f32) (u : FVec Ideal S512x1024 .f32) (w : FVec Ideal S1024x1024 .bf16)
    (r : Fin 512) (j : Fin 1024) :
    unit y p u w (ValueIdx.ix2 r j)
      = gated (fun k : Fin 1024 => y (ValueIdx.ix2 r k) + p (ValueIdx.ix2 0 k) * u (ValueIdx.ix2 r k)) (fun k => w (ValueIdx.ix2 k j)) j := by
  refine congrArg₂ (fun a b : EReal => a * Ideal.logistic b) (rectified_apply y p u r j) ?_
  refine (Cert.Dense.block_apply (M := 512) (K := 1024) (N := 1024) (φ₁ := .bf16) (φ₂ := .bf16) (truncf .bf16 (rectified y p u) bitsLt_bf16_f32) w
    shapeCasts_S1024x1024_S1024x1024 (ValueIdx.ix2 r j)).trans ?_
  exact Finset.sum_congr rfl fun k _ => congrArg (fun a : EReal => a * w (ValueIdx.ix2 k j)) (rectified_apply y p u r k)

open Cert.RefS5PostIdeal.Read in
/-- The reference's sum at an element: the scan's output plus the skip weight times the input, four thousand and
    ninety-six columns into the projection. -/
theorem skip (x0 : FVec Ideal S8192x1024 .f32) (x1 : FVec Ideal S8192x5120 .f32) (x2 : FVec Ideal S1024 .f32) (r : Fin 8192) (j : Fin 1024) :
    val_main_v8 (F := Ideal) x0 x1 x2 (ValueIdx.ix2 r j)
      = x0 (ValueIdx.ix2 r j) + x2 (ValueIdx.ix1 j) * x1 (ValueIdx.ix2 r (⟨4096 + j.val, by omega⟩ : Fin 5120)) := by
  have hj := j.isLt
  have hr := r.isLt
  rw [val_main_v8_apply, val_main_v7_apply, val_main_v6_apply, val_main_v5_apply, val_main_v4_apply, val_main_v3_apply, val_main_v2_apply,
    val_main_v1_apply, val_main_v0_apply]
  refine congrArg₂ (fun a b : EReal => a + b) (congrArg x0 (funext fun a => Fin.ext ?_))
    (congrArg₂ (fun a b : EReal => a * b) (congrArg x2 (funext fun a => Fin.ext ?_)) (congrArg x1 (funext fun a => Fin.ext ?_)))
  · match a with
    | ⟨0, _⟩ =>
      show ((((r.val * 1024 + j.val) / 2097152 * 2048 + (r.val * 1024 + j.val) / 1024 % 2048) * 64 + (r.val * 1024 + j.val) / 16 % 64) * 16
        + (r.val * 1024 + j.val) % 16) / 1024 = r.val
      omega
    | ⟨1, _⟩ =>
      show ((((r.val * 1024 + j.val) / 2097152 * 2048 + (r.val * 1024 + j.val) / 1024 % 2048) * 64 + (r.val * 1024 + j.val) / 16 % 64) * 16
        + (r.val * 1024 + j.val) % 16) % 1024 = j.val
      omega
  · match a with
    | ⟨0, _⟩ =>
      show (r.val * 1024 + j.val) / 16 % 64 * 16 + (r.val * 1024 + j.val) % 16 = j.val
      omega
  · match a with
    | ⟨0, _⟩ =>
      show ((((r.val * 1024 + j.val) / 2097152 * 2048 + (r.val * 1024 + j.val) / 1024 % 2048) * 64 + (r.val * 1024 + j.val) / 16 % 64) * 16
        + (r.val * 1024 + j.val) % 16) / 1024 = r.val
      omega
    | ⟨1, _⟩ =>
      show 4096 + ((((r.val * 1024 + j.val) / 2097152 * 2048 + (r.val * 1024 + j.val) / 1024 % 2048) * 64 + (r.val * 1024 + j.val) / 16 % 64) * 16
        + (r.val * 1024 + j.val) % 16) % 1024 = 4096 + j.val
      omega

open Cert.RefS5PostIdeal.Read in
/-- The reference's rectified rows; its cube is the square times the element, the kernel's the element times the square. -/
theorem reference_gelu (x0 : FVec Ideal S8192x1024 .f32) (x1 : FVec Ideal S8192x5120 .f32) (x2 : FVec Ideal S1024 .f32) (i : S8192x1024.Idx) :
    val_main_v21 (F := Ideal) x0 x1 x2 i = gelu (val_main_v8 (F := Ideal) x0 x1 x2 i) := by
  unfold gelu
  rw [mul_comm (val_main_v8 (F := Ideal) x0 x1 x2 i : EReal) ((val_main_v8 (F := Ideal) x0 x1 x2 i : EReal) * val_main_v8 (F := Ideal) x0 x1 x2 i)]
  rw [val_main_v21_apply, val_main_v20_apply, val_main_v19_apply, val_main_v18_apply, val_main_v17_apply, val_main_v16_apply, val_main_v15_apply,
    val_main_v14_apply, val_main_v13_apply, val_main_v12_apply, val_main_v11_apply, val_main_v10_apply, val_main_v9_apply]
  rfl

open Cert.RefS5PostIdeal.Read in
/-- The reference's gated rows. -/
theorem reference_gated (x0 : FVec Ideal S8192x1024 .f32) (x1 : FVec Ideal S8192x5120 .f32) (x2 : FVec Ideal S1024 .f32)
    (x3 : FVec Ideal S1024x1024 .f32) (r : Fin 8192) (j : Fin 1024) :
    val_main_v29 (F := Ideal) x0 x1 x2 x3 (ValueIdx.ix2 r j)
      = gated (fun k : Fin 1024 => val_main_v8 (F := Ideal) x0 x1 x2 (ValueIdx.ix2 r k)) (fun k => x3 (ValueIdx.ix2 k j)) j := by
  have e : val_main_v22 (F := Ideal) x0 x1 x2 x3 (ValueIdx.ix2 r j)
      = ∑ k : Fin 1024, gelu (val_main_v8 (F := Ideal) x0 x1 x2 (ValueIdx.ix2 r k)) * x3 (ValueIdx.ix2 k j) := by
    rw [val_main_v22_apply]
    refine Finset.sum_congr rfl fun k _ => congrArg₂ (fun a b : EReal => a * b) ?_ (congrArg x3 (funext fun a => Fin.ext ?_))
    · refine (congrArg (val_main_v21 (F := Ideal) x0 x1 x2) (funext fun a => Fin.ext ?_)).trans (reference_gelu x0 x1 x2 (ValueIdx.ix2 r k))
      match a with
      | ⟨0, _⟩ => rfl
      | ⟨1, _⟩ => rfl
    · match a with
      | ⟨0, _⟩ => rfl
      | ⟨1, _⟩ => rfl
  have one : Ideal.ofBits .f32 0x3F800000#32 = 1 := Ideal.ofBits_one_f32
  have s : val_main_v28 (F := Ideal) x0 x1 x2 x3 (ValueIdx.ix2 r j) = Ideal.logistic (val_main_v22 (F := Ideal) x0 x1 x2 x3 (ValueIdx.ix2 r j)) := by
    unfold Ideal.logistic
    rw [val_main_v28_apply, val_main_v27_apply, val_main_v26_apply, val_main_v25_apply, val_main_v24_apply, val_main_v23_apply, ← one]
    rfl
  rw [val_main_v29_apply, reference_gelu, s, e]
  rfl

variable (m : (ℓ : Loc nD τ sig) → Buf (Elt Ideal) ℓ)

/-- The weight that the launch finds is the argument. -/
theorem weight (c : Dev nD) : (V m c main_v3 : S1024x1024.Idx → EReal) = m ((c : Thread nD τ).loc main_arg3) := by
  have e : V m c main_v3 = truncf (F := Ideal) .bf16 (m ((c : Thread nD τ).loc main_arg3) : FVec Ideal S1024x1024 .f32) bitsLt_bf16_f32 := by
    unfold V hostOps0; after_results
  exact e

/-- The two parameter rows that the launch finds: the skip weight above the norm's gain. -/
theorem rows (c : Dev nD) : (V m c main_v2 : S2x1024.Idx → EReal)
    = concatenate S2x1024 0 [⟨S1x1024, broadcastInDim S1x1024 ![1] bcast_S1024_S1x1024_1 (m ((c : Thread nD τ).loc main_arg2) : FVec Ideal S1024 .f32)⟩,
        ⟨S1x1024, broadcastInDim S1x1024 ![1] bcast_S1024_S1x1024_1 (m ((c : Thread nD τ).loc main_arg4) : FVec Ideal S1024 .f32)⟩]
      concatenates_S1x1024_S1x1024_S2x1024_d0 := by
  unfold V hostOps0; after_results

/-- A vector broadcast to a row keeps its elements. -/
theorem as_row (g : FVec Ideal S1024 .f32) (j : Fin 1024) :
    broadcastInDim S1x1024 ![1] bcast_S1024_S1x1024_1 g (ValueIdx.ix2 0 j) = g (ValueIdx.ix1 j) :=
  broadcastInDim_apply _ _ g (ValueIdx.ix2 0 j) (ValueIdx.ix1 j) fun a => by
    match a with
    | ⟨0, _⟩ => exact broadcast_coordinate j

/-- The first parameter row is the skip weight. -/
theorem row_skip (c : Dev nD) (j : Fin 1024) :
    (V m c main_v2 : S2x1024.Idx → EReal) (ValueIdx.ix2 0 j) = m ((c : Thread nD τ).loc main_arg2) (ValueIdx.ix1 j) := by
  rw [rows]
  refine (concatenate_pair_apply_left (t := S2x1024) (s₁ := S1x1024) (s₂ := S1x1024) 0 _ _ concatenates_S1x1024_S1x1024_S2x1024_d0
    (ValueIdx.ix2 (0 : Fin 2) j) rfl (ValueIdx.ix2 (0 : Fin 1) j) fun b => ?_).trans (as_row _ j)
  match b with
  | ⟨0, _⟩ => rfl
  | ⟨1, _⟩ => rfl

/-- The second parameter row is the norm's gain. -/
theorem row_gain (c : Dev nD) (j : Fin 1024) :
    (V m c main_v2 : S2x1024.Idx → EReal) (ValueIdx.ix2 1 j) = m ((c : Thread nD τ).loc main_arg4) (ValueIdx.ix1 j) := by
  rw [rows]
  refine (concatenate_pair_apply_right (t := S2x1024) (s₁ := S1x1024) (s₂ := S1x1024) 0 _ _ concatenates_S1x1024_S1x1024_S2x1024_d0
    (ValueIdx.ix2 (1 : Fin 2) j) rfl rfl (ValueIdx.ix2 (0 : Fin 1) j) (fun b hb => ?_) rfl).trans (as_row _ j)
  match b with
  | ⟨0, _⟩ => exact absurd rfl hb
  | ⟨1, _⟩ => rfl

/-- The rows' windows move with the result's; the parameters and the weight stay; the projection's window starts at its
    fifth block of columns. -/
theorem idx (t : Fin cfg0.N) : win0_0.index t 0 = win0_4.index t 0 ∧ win0_0.index t 1 = 0 ∧ win0_1.index t 0 = win0_4.index t 0
    ∧ win0_1.index t 1 = 4 ∧ win0_2.index t 0 = 0 ∧ win0_2.index t 1 = 0 ∧ win0_3.index t 0 = 0 ∧ win0_3.index t 1 = 0 ∧ win0_4.index t 1 = 0 :=
  (by decide +kernel : ∀ t : Fin grid0.N, win0_0.index t 0 = win0_4.index t 0 ∧ win0_0.index t 1 = 0 ∧ win0_1.index t 0 = win0_4.index t 0
    ∧ win0_1.index t 1 = 4 ∧ win0_2.index t 0 = 0 ∧ win0_2.index t 1 = 0 ∧ win0_3.index t 0 = 0 ∧ win0_3.index t 1 = 0 ∧ win0_4.index t 1 = 0) t

/-- After the launch the result array holds the reference's gated and normed rows, element by element. -/
theorem final (c : Dev nD) : (dats m 0 c).arrAt 4 cfg0.N
    = Cert.RefS5PostIdeal.Read.val_main_v43 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 4 _ (by decide +kernel) fun t hf y => ?_
  blk_simp
  rw [after0_4]
  frame_out
  obtain ⟨e0, e1, e2, e3, e4, e5, e6, e7, e8⟩ := idx t
  have p0 : (((win0_4.blk t).view.emb y) 0 : ℕ) = win0_4.index t 0 * 512 + (y 0 : ℕ) := by blk_simp
  refine kernel_eq_host 0x44800000#32 0x358637BD#32 (unit (iblk m c 0 t) (View.ld (iblk m c 2 t) r0_1) (iblk m c 1 t) (iblk m c 3 t))
    (View.ld (iblk m c 2 t) r0_3)
    (Cert.RefS5PostIdeal.Read.val_main_v29 (F := Ideal) (m ((c : Thread nD τ).loc main_arg0)) (m ((c : Thread nD τ).loc main_arg1))
      (m ((c : Thread nD τ).loc main_arg2)) (m ((c : Thread nD τ).loc main_arg3)))
    (m ((c : Thread nD τ).loc main_arg4)) reduces_S512x1024_S512 shapeCasts_S512_S512x1 broadcasts_S512x1_S512x1024
    shapeCasts_S1x1024_S1x1024 broadcasts_S1x1024_S512x1024 _ (by decide) _ _ _ _ _ _ y _ (by blk_simp [e8]) (fun k => ?_) ?_
  · refine (unit_apply _ _ _ _ (y 0) k).trans (Eq.trans ?_ (reference_gated _ _ _ _ _ k).symm)
    refine congrArg₂ (fun f w : Fin 1024 → EReal => gated f w k) (funext fun l => ?_) (funext fun l => ?_)
    · refine Eq.trans (congrArg₂ (fun a b : EReal => a + b) ?_ (congrArg₂ (fun a b : EReal => a * b) ?_ ?_)) (skip _ _ _ _ l).symm
      · show (V m c main_arg0 : S8192x1024.Idx → EReal) _ = _
        rw [V_main_arg0]
        refine congrArg (m ((c : Thread nD τ).loc main_arg0) : S8192x1024.Idx → EReal) (funext fun a => Fin.ext ?_)
        match a with
        | ⟨0, _⟩ => blk_simp [e0]; exact p0.symm
        | ⟨1, _⟩ => blk_simp [e1]
      · refine Eq.trans ?_ (row_skip m c l)
        show (V m c main_v2 : S2x1024.Idx → EReal) _ = _
        refine congrArg (V m c main_v2 : S2x1024.Idx → EReal) (funext fun a => Fin.ext ?_)
        match a with
        | ⟨0, _⟩ => blk_simp [e4]; rfl
        | ⟨1, _⟩ => blk_simp [e5]; show 0 + 1 * l.val = l.val; omega
      · show (V m c main_arg1 : S8192x5120.Idx → EReal) _ = _
        rw [V_main_arg1]
        refine congrArg (m ((c : Thread nD τ).loc main_arg1) : S8192x5120.Idx → EReal) (funext fun a => Fin.ext ?_)
        match a with
        | ⟨0, _⟩ => blk_simp [e2]; exact p0.symm
        | ⟨1, _⟩ => blk_simp [e3]
    · show (V m c main_v3 : S1024x1024.Idx → EReal) _ = _
      rw [weight]
      refine congrArg (m ((c : Thread nD τ).loc main_arg3) : S1024x1024.Idx → EReal) (funext fun a => Fin.ext ?_)
      match a with
      | ⟨0, _⟩ => blk_simp [e6]
      | ⟨1, _⟩ => blk_simp [e7]
  · refine Eq.trans ?_ (row_gain m c (y 1))
    show (V m c main_v2 : S2x1024.Idx → EReal) _ = _
    refine congrArg (V m c main_v2 : S2x1024.Idx → EReal) (funext fun a => Fin.ext ?_)
    match a with
    | ⟨0, _⟩ => blk_simp [e4]; rfl
    | ⟨1, _⟩ => blk_simp [e5]; show 0 + 1 * (y 1).val = (y 1).val; omega

/-- So every run of the program ends with the reference's rows in the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4)
        = Cert.RefS5PostIdeal.Read.val_main_v43 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Cert.S5PostIdeal.Value.run_blocks m ρ)

end Cert.S5PostIdeal.Gated
end
-- ==== Proof.Norms.lean ====
/-
  The claims about the four norms and the state-space branch's gated unit: their references' frames, and the equality of
  each launch with its reference.
-/
module

public import proofs.«01_k».proof.Defs
public import proofs.«01_k».proof.Proof.NormIn
public import proofs.«01_k».proof.Proof.NormAtt
public import proofs.«01_k».proof.Proof.NormNext
public import proofs.«01_k».proof.Proof.NormFinal
public import proofs.«01_k».proof.Proof.S5Post
public import proofs.«01_k».proof.Proof.Gen.RefNormInIdeal.Run
public import proofs.«01_k».proof.Proof.Gen.RefNormAttIdeal.Run
public import proofs.«01_k».proof.Proof.Gen.RefNormNextIdeal.Run
public import proofs.«01_k».proof.Proof.Gen.RefNormFinalIdeal.Run
public import proofs.«01_k».proof.Proof.Gen.RefS5PostIdeal.Run
public import Idealize.ShloMosaic.Lib.Quiescent

@[expose] public section

noncomputable section

namespace Cert.Proof.Norms

open Idealize.ShloMosaic Idealize.SL.Sem

/-- The reference of the first norm ends, leaves its arguments unchanged, and has no semaphore. -/
theorem frame_ref_NormIn : Cert.quiescent_RefNormInIdeal := fun m ρ _ =>
  (θ_run Cert.RefNormInIdeal.defs _ _).mono (fun r h => ⟨fun c => (h c).2, sem_eq_zero_of_no_sems (by decide) r.2⟩)
    (Cert.RefNormInIdeal.Value.run (F := Ideal) m ρ)

/-- The first norm: launch and reference leave the same array. -/
theorem algebraic_NormIn : Cert.algebraic_NormInIdeal_RefNormInIdeal := by
  intro m ρ m' ρ' _ hagree
  refine ⟨_, Cert.NormInIdeal.Norm.run m ρ, ?_⟩
  refine (θ_run Cert.RefNormInIdeal.defs _ _).mono (fun _ h c => ⟨(h c).1.trans ?_, (h c).2⟩)
    (Cert.RefNormInIdeal.Value.run (F := Ideal) m' ρ')
  rw [(hagree c).1, (hagree c).2]
  exact Cert.RefNormInIdeal.Read.val_main_v13_eq _ _

/-- The reference of the norm after the attention ends, leaves its arguments unchanged, and has no semaphore. -/
theorem frame_ref_NormAtt : Cert.quiescent_RefNormAttIdeal := fun m ρ _ =>
  (θ_run Cert.RefNormAttIdeal.defs _ _).mono (fun r h => ⟨fun c => (h c).2, sem_eq_zero_of_no_sems (by decide) r.2⟩)
    (Cert.RefNormAttIdeal.Value.run (F := Ideal) m ρ)

/-- The norm after the attention: launch and reference leave the same array. -/
theorem algebraic_NormAtt : Cert.algebraic_NormAttIdeal_RefNormAttIdeal := by
  intro m ρ m' ρ' _ hagree
  refine ⟨_, Cert.NormAttIdeal.Norm.run m ρ, ?_⟩
  refine (θ_run Cert.RefNormAttIdeal.defs _ _).mono (fun _ h c => ⟨(h c).1.trans ?_, (h c).2⟩)
    (Cert.RefNormAttIdeal.Value.run (F := Ideal) m' ρ')
  rw [(hagree c).1, (hagree c).2]
  exact Cert.RefNormAttIdeal.Read.val_main_v13_eq _ _

/-- The reference of the residual sum and its norm ends, leaves its arguments unchanged, and has no semaphore. -/
theorem frame_ref_NormNext : Cert.quiescent_RefNormNextIdeal := fun m ρ _ =>
  (θ_run Cert.RefNormNextIdeal.defs _ _).mono (fun r h => ⟨fun c => (h c).2.2, sem_eq_zero_of_no_sems (by decide) r.2⟩)
    (Cert.RefNormNextIdeal.Value.run (F := Ideal) m ρ)

/-- The residual sum and its norm: launch and reference leave the same two arrays. -/
theorem algebraic_NormNext : Cert.algebraic_NormNextIdeal_RefNormNextIdeal := by
  intro m ρ m' ρ' _ hagree
  refine ⟨_, _, Cert.NormNextIdeal.Norm.run m ρ, ?_⟩
  refine (θ_run Cert.RefNormNextIdeal.defs _ _).mono (fun _ h c => ⟨(h c).1.trans ?_, (h c).2.1.trans ?_, (h c).2.2⟩)
    (Cert.RefNormNextIdeal.Value.run (F := Ideal) m' ρ')
  · rw [(hagree c).1, (hagree c).2.1]
    exact Cert.RefNormNextIdeal.Read.val_main_v0_eq _ _
  · rw [(hagree c).1, (hagree c).2.1, (hagree c).2.2]
    exact Cert.RefNormNextIdeal.Read.val_main_v14_eq _ _ _

/-- The reference of the last norm ends, leaves its arguments unchanged, and has no semaphore. -/
theorem frame_ref_NormFinal : Cert.quiescent_RefNormFinalIdeal := fun m ρ _ =>
  (θ_run Cert.RefNormFinalIdeal.defs _ _).mono (fun r h => ⟨fun c => (h c).2, sem_eq_zero_of_no_sems (by decide) r.2⟩)
    (Cert.RefNormFinalIdeal.Value.run (F := Ideal) m ρ)

/-- The last norm, whose result is the layer's: launch and reference leave the same array. -/
theorem algebraic_NormFinal : Cert.algebraic_NormFinalIdeal_RefNormFinalIdeal := by
  intro m ρ m' ρ' _ hagree
  refine ⟨_, Cert.NormFinalIdeal.Norm.run m ρ, ?_⟩
  refine (θ_run Cert.RefNormFinalIdeal.defs _ _).mono (fun _ h c => ⟨(h c).1.trans ?_, (h c).2⟩)
    (Cert.RefNormFinalIdeal.Value.run (F := Ideal) m' ρ')
  rw [(hagree c).1, (hagree c).2.1, (hagree c).2.2]
  exact Cert.RefNormFinalIdeal.Read.val_main_v13_eq _ _ _

/-- The reference of the gated unit ends, leaves its arguments unchanged, and has no semaphore. -/
theorem frame_ref_S5Post : Cert.quiescent_RefS5PostIdeal := fun m ρ _ =>
  (θ_run Cert.RefS5PostIdeal.defs _ _).mono (fun r h => ⟨fun c => (h c).2, sem_eq_zero_of_no_sems (by decide) r.2⟩)
    (Cert.RefS5PostIdeal.Value.run (F := Ideal) m ρ)

/-- The gated unit: launch and reference leave the same array. -/
theorem algebraic_S5Post : Cert.algebraic_S5PostIdeal_RefS5PostIdeal := by
  intro m ρ m' ρ' _ hagree
  refine ⟨_, Cert.S5PostIdeal.Gated.run m ρ, ?_⟩
  refine (θ_run Cert.RefS5PostIdeal.defs _ _).mono (fun _ h c => ⟨(h c).1.trans ?_, (h c).2⟩)
    (Cert.RefS5PostIdeal.Value.run (F := Ideal) m' ρ')
  rw [Cert.RefS5PostIdeal.Read.val_main_v43_eq, (hagree c).1, (hagree c).2.1, (hagree c).2.2.1, (hagree c).2.2.2.1, (hagree c).2.2.2.2]

end Cert.Proof.Norms

end
-- ==== Proof.Softmax.lean ====
/-
  Averages weighted by a softmax over a finite set of positions, on the extended reals: positions of score `⊥` do
  not count, and dividing the weights is dividing the sum.
-/
module

public import Idealize.ShloMosaic.Lib.Pipeline.ValueKit

@[expose] public section

noncomputable section

namespace Cert.Softmax

open Idealize.ShloMosaic

/-- The sum of the exponentials of the scores `s` over `W`, each taken relative to the greatest score. -/
def mass (W : Finset ℕ) (s : ℕ → EReal) : EReal := ∑ k ∈ W, Ideal.exp (s k - W.sup s)

/-- The average of the values `v` over `W`, weighted by the exponentials of the scores `s`. -/
def average (W : Finset ℕ) (s v : ℕ → EReal) : EReal :=
  Ideal.div (∑ k ∈ W, Ideal.exp (s k - W.sup s) * v k) (mass W s)

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {ι : Type} (W : Finset ι) {f : ι → EReal} (h : ∀ k ∈ W, IsReal (f k)) : IsReal (∑ k ∈ W, f k) := by
  classical
  induction W using Finset.induction_on with
  | empty => exact ⟨0, by simp⟩
  | insert a W ha ih =>
    rw [Finset.sum_insert ha]
    exact (h a (Finset.mem_insert_self a W)).add (ih fun k hk => h k (Finset.mem_insert_of_mem hk))

/-- Less than infinity in absolute value is being real. -/
theorem isReal_of_abs_lt {x : EReal} (h : max x (-x) < ⊤) : IsReal x := by
  induction x with
  | bot => simp at h
  | top => simp at h
  | coe r => exact ⟨r, rfl⟩

theorem exp_bot_sub (x : EReal) : Ideal.exp (⊥ - x) = 0 := by
  rw [sub_eq_add_neg, EReal.bot_add]; rfl

section Restrict
variable {U W : Finset ℕ} {s : ℕ → EReal} (h : U ⊆ W) (hs : ∀ k ∈ W, k ∉ U → s k = ⊥)
include h hs

/-- Positions of score `⊥` do not change the greatest score. -/
theorem sup_restrict : W.sup s = U.sup s := by
  refine le_antisymm (Finset.sup_le fun k hk => ?_) (Finset.sup_mono h)
  by_cases hU : k ∈ U
  · exact Finset.le_sup hU
  · rw [hs k hk hU]; exact bot_le

/-- Positions of score `⊥` add nothing to the mass. -/
theorem mass_restrict : mass W s = mass U s := by
  unfold mass
  rw [sup_restrict h hs]
  refine (Finset.sum_subset h fun k hk hU => ?_).symm
  rw [hs k hk hU, exp_bot_sub]

/-- Positions of score `⊥` do not change the average, whatever their values. -/
theorem average_restrict (v : ℕ → EReal) : average W s v = average U s v := by
  unfold average
  rw [mass_restrict h hs, sup_restrict h hs]
  congr 1
  refine (Finset.sum_subset h fun k hk hU => ?_).symm
  rw [hs k hk hU, exp_bot_sub, zero_mul]

end Restrict

/-- Where the scores are real and there is one, the mass is a positive real. -/
theorem mass_pos {U : Finset ℕ} {s : ℕ → EReal} (hne : U.Nonempty) (hr : ∀ k ∈ U, IsReal (s k)) :
    ∃ l : ℝ, 0 < l ∧ mass U s = (l : EReal) := by
  obtain ⟨k₀, hk₀, hsup⟩ := Finset.exists_mem_eq_sup U hne s
  obtain ⟨c, hc⟩ := hr k₀ hk₀
  have hexp : ∀ k ∈ U, ∃ e : ℝ, 0 < e ∧ Ideal.exp (s k - U.sup s) = (e : EReal) := by
    intro k hk
    obtain ⟨a, ha⟩ := hr k hk
    refine ⟨Real.exp (a - c), Real.exp_pos _, ?_⟩
    rw [hsup, ha, hc, ← EReal.coe_sub]; rfl
  choose! e he using hexp
  refine ⟨∑ k ∈ U, e k, Finset.sum_pos (fun k hk => (he k hk).1) hne, ?_⟩
  unfold mass
  rw [Finset.sum_congr rfl fun k hk => (he k hk).2]
  clear he hsup hk₀ hc hne hr
  classical
  induction U using Finset.induction_on with
  | empty => simp
  | insert a W ha ih => rw [Finset.sum_insert ha, Finset.sum_insert ha, ih, EReal.coe_add]

/-- The average with each weight divided by the mass first. -/
theorem average_weights {U W : Finset ℕ} {s : ℕ → EReal} (h : U ⊆ W) (hs : ∀ k ∈ W, k ∉ U → s k = ⊥)
    (hne : U.Nonempty) (hr : ∀ k ∈ U, IsReal (s k)) (v : ℕ → EReal) :
    ∑ k ∈ W, v k * Ideal.div (Ideal.exp (s k - W.sup s)) (mass W s) = average U s v := by
  rw [← average_restrict h hs v]
  obtain ⟨l, hl, hm⟩ := mass_pos hne hr
  have hm' : mass W s = (l : EReal) := (mass_restrict h hs).trans hm
  have hl0 : (l : EReal) ≠ 0 := fun hz => hl.ne' (EReal.coe_eq_zero.mp hz)
  unfold average
  rw [hm']
  unfold Ideal.div
  simp only [if_neg hl0]
  rw [← EReal.coe_inv]
  have hn : (0 : EReal) ≤ ((l⁻¹ : ℝ) : EReal) := EReal.coe_nonneg.mpr (inv_nonneg.mpr hl.le)
  have key : ∀ (V : Finset ℕ) (f : ℕ → EReal), (∑ k ∈ V, f k) * ((l⁻¹ : ℝ) : EReal) = ∑ k ∈ V, f k * ((l⁻¹ : ℝ) : EReal) := by
    intro V f
    classical
    induction V using Finset.induction_on with
    | empty => simp
    | insert a V ha ih =>
      rw [Finset.sum_insert ha, Finset.sum_insert ha, ← ih,
        EReal.right_distrib_of_nonneg_of_ne_top hn (EReal.coe_ne_top _)]
  rw [key]
  refine Finset.sum_congr rfl fun k _ => ?_
  rw [← mul_assoc, mul_comm (v k)]

/-- A sum over `n` consecutive positions from `a`. -/
theorem sum_window (n a : ℕ) (f : ℕ → EReal) : ∑ k : Fin n, f (a + k.val) = ∑ k ∈ Finset.Ico a (a + n), f k := by
  rw [Finset.sum_Ico_eq_sum_range, Nat.add_sub_cancel_left, Fin.sum_univ_eq_sum_range fun k => f (a + k)]

/-- A maximum over `n` consecutive positions from `a`, folded from `⊥`. -/
theorem fold_window (n a : ℕ) (s : ℕ → EReal) :
    Finset.univ.fold max ⊥ (fun k : Fin n => s (a + k.val)) = (Finset.Ico a (a + n)).sup s := by
  show Finset.univ.sup (fun k : Fin n => s (a + k.val)) = _
  refine le_antisymm (Finset.sup_le fun k _ => Finset.le_sup (f := s) (Finset.mem_Ico.mpr ⟨Nat.le_add_right _ _, by omega⟩))
    (Finset.sup_le fun k hk => ?_)
  obtain ⟨h1, h2⟩ := Finset.mem_Ico.mp hk
  have := Finset.le_sup (f := fun k : Fin n => s (a + k.val)) (Finset.mem_univ (⟨k - a, by omega⟩ : Fin n))
  simpa [Nat.add_sub_cancel' h1] using this

/-- The average over `n` consecutive positions from `a`, of scores and values given position by position. -/
theorem average_window (n a : ℕ) {s v : ℕ → EReal} {f g : Fin n → EReal} (hf : ∀ k, f k = s (a + k.val))
    (hg : ∀ k, g k = v (a + k.val)) :
    Ideal.div (∑ k : Fin n, Ideal.exp (f k - Finset.univ.fold max ⊥ f) * g k)
        (∑ k : Fin n, Ideal.exp (f k - Finset.univ.fold max ⊥ f))
      = average (Finset.Ico a (a + n)) s v := by
  obtain rfl : f = fun k => s (a + k.val) := funext hf
  obtain rfl : g = fun k => v (a + k.val) := funext hg
  rw [fold_window]
  unfold average mass
  rw [← sum_window n a fun k => Ideal.exp (s k - (Finset.Ico a (a + n)).sup s) * v k,
    ← sum_window n a fun k => Ideal.exp (s k - (Finset.Ico a (a + n)).sup s)]

/-- The same with each weight divided by the mass first. -/
theorem weights_window (n a : ℕ) {s v : ℕ → EReal} {f g : Fin n → EReal} (hf : ∀ k, f k = s (a + k.val))
    (hg : ∀ k, g k = v (a + k.val)) :
    ∑ k : Fin n, g k * Ideal.div (Ideal.exp (f k - Finset.univ.fold max ⊥ f))
        (∑ k : Fin n, Ideal.exp (f k - Finset.univ.fold max ⊥ f))
      = ∑ k ∈ Finset.Ico a (a + n), v k * Ideal.div (Ideal.exp (s k - (Finset.Ico a (a + n)).sup s))
          (mass (Finset.Ico a (a + n)) s) := by
  obtain rfl : f = fun k => s (a + k.val) := funext hf
  obtain rfl : g = fun k => v (a + k.val) := funext hg
  rw [fold_window]
  unfold mass
  rw [← sum_window n a fun k => Ideal.exp (s k - (Finset.Ico a (a + n)).sup s),
    ← sum_window n a fun k => v k * Ideal.div (Ideal.exp (s k - (Finset.Ico a (a + n)).sup s)) _]

/-- The same with the maximum, the exponentials and the weights named. -/
theorem weights_named (n a : ℕ) {s v : ℕ → EReal} {f g e w : Fin n → EReal} {m : EReal} (hf : ∀ k, f k = s (a + k.val))
    (hg : ∀ k, g k = v (a + k.val)) (hm : m = Finset.univ.fold max ⊥ f) (he : ∀ k, e k = Ideal.exp (f k - m))
    (hw : ∀ k, w k = Ideal.div (e k) (∑ k, e k)) :
    ∑ k : Fin n, g k * w k
      = ∑ k ∈ Finset.Ico a (a + n), v k * Ideal.div (Ideal.exp (s k - (Finset.Ico a (a + n)).sup s))
          (mass (Finset.Ico a (a + n)) s) := by
  obtain rfl : e = fun k => Ideal.exp (f k - m) := funext he
  obtain rfl : w = fun k => Ideal.div (Ideal.exp (f k - m)) (∑ k, Ideal.exp (f k - m)) := funext hw
  subst hm
  exact weights_window n a hf hg

end Cert.Softmax

end
-- ==== Proof.Words.lean ====
/-
  The integer words of the two programs' index arithmetic, at the naturals they stand for: a floor division by 64, the
  clipped distance of a query from a key, and the chunk a key lies in.
-/
module

public import Idealize.ShloMosaic.Lib.Pipeline.ValueKit

@[expose] public section

set_option maxRecDepth 65536

noncomputable section

namespace Cert.Words

open Idealize.ShloMosaic

/-- The sign of a word. -/
abbrev sgn (x : BitVec 32) : BitVec 32 := if x = 0 then 0 else if x.msb then -1 else 1

/-- The quotient rounded down, from the one rounded toward zero. -/
abbrev floorDiv (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

theorem floorDiv_64 : ∀ n : Fin 768, floorDiv (BitVec.ofNat 32 n.val) 64#32 = BitVec.ofNat 32 (n.val / 64) := by
  decide +kernel

/-- A signed distance clipped into `[-256, 256]` and moved to `[0, 512]`. -/
abbrev clip (x : BitVec 32) : BitVec 32 := IntOp.addi (IntOp.minsi 256#32 (IntOp.maxsi 4294967040#32 x)) 256#32

/-- An index counted from the end where it is negative. -/
abbrev wrap (n x : BitVec 32) : BitVec 32 := Scalar.select (IntOp.cmpi .slt x 0#32) (IntOp.addi x n) x

theorem clip_of_le : ∀ n : Fin 1024, min ((wrap 513#32 (clip (BitVec.ofNat 32 n.val))).toInt.toNat) 512 = min n.val 256 + 256 := by
  decide +kernel

theorem clip_of_ge : ∀ n : Fin 1024, min ((wrap 513#32 (clip (-BitVec.ofNat 32 n.val))).toInt.toNat) 512 = 256 - min n.val 256 := by
  decide +kernel

/-- The distance from position `b` back to `a`, clipped into `[-256, 256]` and moved to `[0, 512]`. -/
def place (a b : ℕ) : ℕ := min (a - b) 256 + 256 - min (b - a) 256

theorem place_lt (a b : ℕ) : place a b < 513 := by unfold place; omega

theorem place_add (c a b : ℕ) : place (c + a) (c + b) = place a b := by unfold place; omega

/-- The relative position as the programs compute it, read as an index into the table of biases. -/
theorem clip_word (r k : ℕ) (hr : r < 256) (hk : k < 768) :
    min ((wrap 513#32 (clip (IntOp.subi (IntOp.addi (BitVec.ofNat 32 r) 512#32) (BitVec.ofNat 32 k)))).toInt.toNat) 512
      = place (r + 512) k := by
  rcases le_or_gt k (r + 512) with h | h
  · have e : IntOp.subi (IntOp.addi (BitVec.ofNat 32 r) 512#32) (BitVec.ofNat 32 k) = BitVec.ofNat 32 (r + 512 - k) := by
      show BitVec.ofNat 32 r + 512#32 - BitVec.ofNat 32 k = _
      apply BitVec.eq_of_toNat_eq
      simp only [BitVec.toNat_sub, BitVec.toNat_add, BitVec.toNat_ofNat]
      omega
    rw [e, clip_of_le ⟨r + 512 - k, by omega⟩]
    show min (r + 512 - k) 256 + 256 = _
    unfold place; omega
  · have e : IntOp.subi (IntOp.addi (BitVec.ofNat 32 r) 512#32) (BitVec.ofNat 32 k) = -BitVec.ofNat 32 (k - (r + 512)) := by
      show BitVec.ofNat 32 r + 512#32 - BitVec.ofNat 32 k = _
      apply BitVec.eq_of_toNat_eq
      simp only [BitVec.toNat_sub, BitVec.toNat_add, BitVec.toNat_ofNat, BitVec.toNat_neg]
      omega
    rw [e, clip_of_ge ⟨k - (r + 512), by omega⟩]
    show 256 - min (k - (r + 512)) 256 = _
    unfold place; omega

theorem select_ofBool {α : Type} (p : Prop) [Decidable p] (a b : α) :
    Scalar.select (BitVec.ofBool (decide p)) a b = if p then a else b := by
  by_cases h : p <;> simp [h, Scalar.select]

/-- A key's chunk lies from the query's own chunk's start to eight chunks after it, of chunks counted in the window. -/
theorem valid_window : ∀ (u : Fin 12) (v : Fin 4),
    IntOp.andi (IntOp.cmpi .sge (IntOp.subi (BitVec.ofNat 32 u.val) (BitVec.ofNat 32 v.val)) 0#32)
      (IntOp.cmpi .sle (IntOp.subi (BitVec.ofNat 32 u.val) (BitVec.ofNat 32 v.val)) 8#32)
      = BitVec.ofBool (decide (v.val ≤ u.val ∧ u.val ≤ v.val + 8)) := by
  decide +kernel

/-- A key of the band's chunk `u` of the queries' chunk `n` exists. -/
theorem valid_band : ∀ (n : Fin 32) (u : Fin 9),
    IntOp.cmpi .sge (IntOp.addi (IntOp.subi (BitVec.ofNat 32 n.val) 8#32) (BitVec.ofNat 32 u.val)) 0#32
      = BitVec.ofBool (decide (8 ≤ n.val + u.val)) := by
  decide +kernel

/-- The band's chunk, as an index of the padded chunks. -/
theorem band_word : ∀ (n : Fin 32) (u : Fin 9),
    min ((wrap 40#32 (IntOp.addi (BitVec.ofNat 32 n.val) (BitVec.ofNat 32 u.val))).toInt.toNat) 39 = n.val + u.val := by
  decide +kernel

end Cert.Words

end
-- ==== Proof.Scores.lean ====
/-
  The attention as a mathematician writes it: a query attends to the keys of its own chunk of 64 and of the eight chunks
  before it; a key's score is the scaled product of the query with it plus the bias of their distance; the result is the
  average of the keys' values weighted by the exponentials of the scores.

  Keys are counted from 512 positions before the sequence's first, so that every window begins at a natural number.
-/
module

public import proofs.«01_k».proof.Proof.Softmax
public import proofs.«01_k».proof.Proof.Words

@[expose] public section

set_option maxRecDepth 16384

noncomputable section

namespace Cert.Scores

open Idealize.ShloMosaic Cert.Softmax

/-- The projected queries, keys and values: a row per position of a sequence. -/
abbrev Rows : Type := (⟨2, ![8192, 6144]⟩ : Shape).Idx → EReal

/-- The table of relative biases: a row per head. -/
abbrev Biases : Type := (⟨2, ![16, 513]⟩ : Shape).Idx → EReal

variable (x : Rows) (y : Biases)

/-- The entry of row `r` and column `c`. -/
def ent (r c : ℕ) : EReal := x (ValueIdx.ix2 (Fin.ofNat 8192 r) (Fin.ofNat 6144 c))

/-- Head `h`'s bias of the relative position `p`. -/
def biasOf (h p : ℕ) : EReal := y (ValueIdx.ix2 (Fin.ofNat 16 h) (Fin.ofNat 513 p))

theorem ent_eq {r c : ℕ} (i : (⟨2, ![8192, 6144]⟩ : Shape).Idx) (hr : (i 0).val = r) (hc : (i 1).val = c) : x i = ent x r c := by
  unfold ent
  refine congrArg x (funext fun a => ?_)
  match a with
  | ⟨0, _⟩ => exact Fin.ext (by subst hr; exact (Nat.mod_eq_of_lt (i 0).isLt).symm)
  | ⟨1, _⟩ => exact Fin.ext (by subst hc; exact (Nat.mod_eq_of_lt (i 1).isLt).symm)

theorem biasOf_eq {h p : ℕ} (i : (⟨2, ![16, 513]⟩ : Shape).Idx) (hh : (i 0).val = h) (hp : (i 1).val = p) : y i = biasOf y h p := by
  unfold biasOf
  refine congrArg y (funext fun a => ?_)
  match a with
  | ⟨0, _⟩ => exact Fin.ext (by subst hh; exact (Nat.mod_eq_of_lt (i 0).isLt).symm)
  | ⟨1, _⟩ => exact Fin.ext (by subst hp; exact (Nat.mod_eq_of_lt (i 1).isLt).symm)

/-- The scale of the products, the float word of `128 ^ (-1/2)`. -/
def scale : EReal := Ideal.ofBits .f32 0x3DB504F3#32

/-- The keys query `t` attends to. -/
def keys (t : ℕ) : Finset ℕ := Finset.Ico (max 512 (64 * (t / 64))) (64 * (t / 64) + 576)

theorem mem_keys {t p : ℕ} : p ∈ keys t ↔ 512 ≤ p ∧ 64 * (t / 64) ≤ p ∧ p < 64 * (t / 64) + 576 := by
  unfold keys; rw [Finset.mem_Ico]; omega

theorem keys_nonempty (t : ℕ) : (keys t).Nonempty :=
  ⟨t + 512, mem_keys.mpr (by omega)⟩

/-- The product of query `t` with the key at position `p`, in sequence `b` and head `h`. -/
def product (b h t p : ℕ) : EReal :=
  ∑ d : Fin 128, ent x (2048 * b + t) (128 * h + d.val) * ent x (2048 * b + (p - 512)) (2048 + 128 * h + d.val)

/-- The score of the key at position `p` for query `t`: `⊥` where the query does not attend to it. -/
def score (b h t p : ℕ) : EReal :=
  if p ∈ keys t then product x b h t p * scale + biasOf y h (Words.place (t + 512) p) else ⊥

/-- The value at position `p`: zero before the sequence's first. -/
def value (b h d p : ℕ) : EReal := if 512 ≤ p then ent x (2048 * b + (p - 512)) (4096 + 128 * h + d) else 0

/-- The attention's result in sequence `b`, for query `t`, at lane `d` of head `h`. -/
def attention (b h t d : ℕ) : EReal := average (keys t) (score x y b h t) (value x b h d)

theorem score_not_mem {b h t p : ℕ} (hp : p ∉ keys t) : score x y b h t p = ⊥ := if_neg hp

/-- The word of the masked places is −∞. -/
theorem ofBits_bot : Ideal.ofBits .f32 0xFF800000#32 = ⊥ := by
  simp [Ideal.ofBits, Ideal.ieee]

theorem scale_isReal : IsReal scale := by
  unfold scale
  simp only [Ideal.ofBits, Ideal.ieee]
  exact ⟨_, rfl⟩

/-- The scores of the keys attended to are real numbers where the queries, the keys and the biases are. -/
theorem score_isReal (hx : ∀ r c, c < 4096 → IsReal (ent x r c)) (hy : ∀ h p, IsReal (biasOf y h p)) {b h t p : ℕ}
    (hh : h < 16) (hp : p ∈ keys t) : IsReal (score x y b h t p) := by
  unfold score
  rw [if_pos hp]
  refine IsReal.add (IsReal.mul (IsReal.sum _ fun d _ => ?_) scale_isReal) (hy _ _)
  have := d.isLt
  exact IsReal.mul (hx _ _ (by omega)) (hx _ _ (by omega))

end Cert.Scores

end
-- ==== Proof.Gathers.lean ====
/-
  The two gathers of the programs at an index: a column picked from a table by a word per place, and a chunk picked from
  the padded chunks by a word per band.
-/
module

public import Idealize.ShloMosaic.Lib.Pipeline.ValueKit

@[expose] public section

set_option maxRecDepth 16384

noncomputable section

namespace Cert.Gathers

open Idealize.ShloMosaic Idealize.ShloMosaic.ValueIdx

/-- The dimension numbers of a gather of columns: the first axis is copied, the second picked. -/
@[reducible] def columns (H N R C : ℕ) (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ :=
  { offsetDims := [0], collapsedSliceDims := [1], operandBatchingDims := [], startIndicesBatchingDims := [],
    startIndexMap := [1], indexVectorDim := 2, sliceSizes := ![H, 1], wf := wf }

/-- The picked column is the one the word names, held inside the table. -/
theorem columns_apply {α : Type} (H N R C : ℕ) (wf) (x : (⟨2, ![H, N]⟩ : Shape).Idx → α) (idx : IVec ⟨3, ![R, C, 1]⟩ 32)
    (h : Fin H) (r : Fin R) (k : Fin C) (p : Fin N) (hp : min (idx (ValueIdx.ix3 r k 0)).toInt.toNat (N - 1) = p.val) :
    Host.gather (columns H N R C wf) x idx (ValueIdx.ix3 h r k) = x (ValueIdx.ix2 h p) := by
  unfold Host.gather
  congr 1
  funext a
  refine Fin.ext ?_
  show (columns H N R C wf).start (ValueIdx.ix3 h r k) idx a + (columns H N R C wf).batchCoord (ValueIdx.ix3 h r k) a
    + (columns H N R C wf).offCoord (ValueIdx.ix3 h r k) a = _
  rw [GatherDims.batchCoord_eq_zero _ _ _ List.not_mem_nil]
  match a with
  | ⟨0, _⟩ =>
    have h0 : (columns H N R C wf).start (ValueIdx.ix3 h r k) idx 0 = 0 := by
      unfold GatherDims.start
      exact dif_neg (fun hm => absurd (List.mem_singleton.1 hm) (Fin.ne_of_val_ne Nat.zero_ne_one))
    show (columns H N R C wf).start (ValueIdx.ix3 h r k) idx 0 + 0 + (columns H N R C wf).offCoord (ValueIdx.ix3 h r k) 0 = _
    rw [h0]
    unfold GatherDims.offCoord
    rw [dif_pos ((GatherDims.mem_sKept _ _).2
      ⟨fun hm => absurd (List.mem_singleton.1 hm) (Fin.ne_of_val_ne Nat.zero_ne_one), List.not_mem_nil⟩)]
    simp only [Nat.zero_add]
    rfl
  | ⟨1, _⟩ =>
    show (columns H N R C wf).start (ValueIdx.ix3 h r k) idx 1 + 0 + (columns H N R C wf).offCoord (ValueIdx.ix3 h r k) 1 = _
    rw [GatherDims.offCoord_eq_zero _ _ _ (fun hm => ((GatherDims.mem_sKept _ _).mp hm).1 (List.mem_singleton.2 rfl))]
    unfold GatherDims.start
    rw [dif_pos (List.mem_singleton.2 rfl)]
    have hsi : (columns H N R C wf).siIdx (ValueIdx.ix3 h r k) ⟨0, Nat.one_pos⟩ = ValueIdx.ix3 r k 0 := by
      funext b
      match b with
      | ⟨0, _⟩ => exact Fin.ext rfl
      | ⟨1, _⟩ => exact Fin.ext rfl
      | ⟨2, _⟩ => exact Fin.ext rfl
    show min (idx ((columns H N R C wf).siIdx (ValueIdx.ix3 h r k) ⟨0, _⟩)).toInt.toNat (N - 1) + 0 + 0 = p.val
    rw [hsi, hp]; rfl

/-- An index of a tensor of six axes. -/
def ix6 {n0 n1 n2 n3 n4 n5 : ℕ} (i0 : Fin n0) (i1 : Fin n1) (i2 : Fin n2) (i3 : Fin n3) (i4 : Fin n4) (i5 : Fin n5) :
    (⟨6, ![n0, n1, n2, n3, n4, n5]⟩ : Shape).Idx := Fin.cons i0 (ValueIdx.ix5 i1 i2 i3 i4 i5)

/-- The dimension numbers of a gather of chunks: the second axis is picked, the others copied. -/
@[reducible] def chunks (wf : GatherDims.WF ⟨5, ![4, 40, 64, 16, 128]⟩ ⟨3, ![32, 9, 1]⟩ ⟨6, ![4, 32, 9, 64, 16, 128]⟩
      [0, 3, 4, 5] [1] [] [1] [] 2 ![4, 1, 64, 16, 128]) :
    GatherDims ⟨5, ![4, 40, 64, 16, 128]⟩ ⟨3, ![32, 9, 1]⟩ ⟨6, ![4, 32, 9, 64, 16, 128]⟩ :=
  { offsetDims := [0, 3, 4, 5], collapsedSliceDims := [1], operandBatchingDims := [], startIndicesBatchingDims := [],
    startIndexMap := [1], indexVectorDim := 2, sliceSizes := ![4, 1, 64, 16, 128], wf := wf }

/-- The picked chunk is the one the word names, held inside the padded chunks. -/
theorem chunks_apply {α : Type} (wf) (x : (⟨5, ![4, 40, 64, 16, 128]⟩ : Shape).Idx → α) (idx : IVec ⟨3, ![32, 9, 1]⟩ 32)
    (b : Fin 4) (n : Fin 32) (u : Fin 9) (e : Fin 64) (h : Fin 16) (d : Fin 128) (p : Fin 40)
    (hp : min (idx (ValueIdx.ix3 n u 0)).toInt.toNat 39 = p.val) :
    Host.gather (chunks wf) x idx (ix6 b n u e h d) = x (ValueIdx.ix5 b p e h d) := by
  unfold Host.gather
  congr 1
  funext a
  refine Fin.ext ?_
  show (chunks wf).start (ix6 b n u e h d) idx a + (chunks wf).batchCoord (ix6 b n u e h d) a
    + (chunks wf).offCoord (ix6 b n u e h d) a = _
  rw [GatherDims.batchCoord_eq_zero _ _ _ List.not_mem_nil]
  by_cases ha : a = 1
  · subst ha
    rw [GatherDims.offCoord_eq_zero _ _ _ (fun hm => ((GatherDims.mem_sKept _ _).mp hm).1 (List.mem_singleton.2 rfl))]
    unfold GatherDims.start
    rw [dif_pos (List.mem_singleton.2 rfl)]
    have hsi : (chunks wf).siIdx (ix6 b n u e h d) ⟨0, Nat.one_pos⟩ = ValueIdx.ix3 n u 0 := by
      funext b
      match b with
      | ⟨0, _⟩ => exact Fin.ext rfl
      | ⟨1, _⟩ => exact Fin.ext rfl
      | ⟨2, _⟩ => exact Fin.ext rfl
    show min (idx ((chunks wf).siIdx (ix6 b n u e h d) ⟨0, _⟩)).toInt.toNat 39 + 0 + 0 = p.val
    rw [hsi, hp]; rfl
  · have h0 : (chunks wf).start (ix6 b n u e h d) idx a = 0 := by
      unfold GatherDims.start
      exact dif_neg (by simpa using ha)
    rw [h0]
    unfold GatherDims.offCoord
    rw [dif_pos (by rw [GatherDims.mem_sKept]; simpa using ha)]
    simp only [Nat.zero_add]
    match a with
    | ⟨0, _⟩ => rfl
    | ⟨1, _⟩ => exact absurd rfl ha
    | ⟨2, _⟩ => rfl
    | ⟨3, _⟩ => rfl
    | ⟨4, _⟩ => rfl

end Cert.Gathers

end
-- ==== Proof.Bias.lean ====
/-
  The table of biases the host of the attention's program hands its kernel: for a query row and a key column of a window
  that begins 512 keys before the block of queries, the bias of their distance where the key's chunk is in the query's
  band, and −∞ elsewhere.
-/
module

public import proofs.«01_k».proof.Proof.Gen.KernelIdeal.Value
public import proofs.«01_k».proof.Proof.Scores
public import proofs.«01_k».proof.Proof.Gathers

@[expose] public section

set_option maxRecDepth 16384

noncomputable section

namespace Cert.KernelIdeal.Attend

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- A word at every place of the window. -/
abbrev every (w : BitVec 32) : IVec S256x768 32 := broadcastInDim S256x768 ![] bcast_S_S256x768 (constantI S_ 32 w)

/-- The query rows, a column of words. -/
abbrev rows : IVec S256x1 32 := broadcastInDim S256x1 ![0] bcast_S256_S256x1_0 (iotaInDim S256 32 0)

/-- The key columns, a row of words. -/
abbrev cols : IVec S1x768 32 := broadcastInDim S1x768 ![1] bcast_S768_S1x768_1 (iotaInDim S768 32 0)

/-- The clipped distances. -/
abbrev dist : IVec S256x768 32 :=
  addi (minsi (every 256#32) (maxsi (every 4294967040#32)
    (subi (broadcastInDim S256x768 ![0, 1] bcast_S256x1_S256x768_0_1
        (addi rows (broadcastInDim S256x1 ![] bcast_S_S256x1 (constantI S_ 32 512#32))))
      (broadcastInDim S256x768 ![0, 1] bcast_S1x768_S256x768_0_1 cols)))) (every 256#32)

/-- A floor division by 64 of a tensor of words. -/
abbrev floorDiv64 {s : Shape} (h : S_.BroadcastsInDim s ![]) (x : IVec s 32) : IVec s 32 :=
  select (andi (cmpi .ne (signi x) (broadcastInDim s ![] h (signi (constantI S_ 32 64#32))))
      (cmpi .ne (Host.remsi x (broadcastInDim s ![] h (constantI S_ 32 64#32))) (broadcastInDim s ![] h (constantI S_ 32 0#32))))
    (subi (Host.divsi x (broadcastInDim s ![] h (constantI S_ 32 64#32))) (broadcastInDim s ![] h (constantI S_ 32 1#32)))
    (Host.divsi x (broadcastInDim s ![] h (constantI S_ 32 64#32)))

/-- The key's chunk less the query's, counted from the window's first. -/
abbrev gap : IVec S256x768 32 :=
  subi (broadcastInDim S256x768 ![0, 1] bcast_S1x768_S256x768_0_1 (floorDiv64 bcast_S_S1x768 cols))
    (broadcastInDim S256x768 ![0, 1] bcast_S256x1_S256x768_0_1 (floorDiv64 bcast_S_S256x1 rows))

/-- Where the key's chunk is in the query's band. -/
abbrev band : IVec S256x768 1 := andi (cmpi .sge gap (every 0#32)) (cmpi .sle gap (every 8#32))

/-- The distances as indices of the table. -/
abbrev places : IVec S256x768x1 32 :=
  broadcastInDim S256x768x1 ![0, 1] bcast_S256x768_S256x768x1_0_1
    (select (cmpi .slt dist (every 0#32)) (addi dist (every 513#32)) dist)

/-- The table of biases as the host computes it from the relative biases. -/
abbrev table (x1 : FVec Ideal S16x513 .f32) : FVec Ideal S16x256x768 .f32 :=
  select (broadcastInDim S16x256x768 ![0, 1, 2] bcast_S1x256x768_S16x256x768_0_1_2
      (broadcastInDim S1x256x768 ![1, 2] bcast_S256x768_S1x256x768_1_2 band))
    (Host.gather gather_S16x513_S256x768x1_S16x256x768_0_1_n_n_1_2_161 x1 places)
    (broadcastInDim S16x256x768 ![] bcast_S_S16x256x768 (constant S_ .f32 0xFF800000#32))

/-- The kernel's fourth operand is that table. -/
theorem V_table (c : Dev nD) : V m c main_v31 = table (m ((c.tc : Thread nD τ).loc main_arg1)) := by
  unfold V hostOps0 hostOps0_1 hostOps0_2 hostOps0_3 hostOps0_4 hostOps0_5 hostOps0_6 hostOps0_7
  simp only [List.flatten_cons, List.flatten_nil, List.append_nil, List.cons_append, List.nil_append]
  after_results
  simp only [StableHlo.TRef.ofBuf_toBuf, StableHlo.TRef.ofBuf, StableHlo.TRef.toBuf, cast_eq, id]

/-- The table at a head, a row and a column. -/
theorem table_apply (x1 : FVec Ideal S16x513 .f32) (h : Fin 16) (r : Fin 256) (k : Fin 768) :
    table x1 (ValueIdx.ix3 h r k) = if r.val / 64 ≤ k.val / 64 ∧ k.val / 64 ≤ r.val / 64 + 8
      then x1 (ValueIdx.ix2 h ⟨Words.place (r.val + 512) k.val, Words.place_lt _ _⟩) else ⊥ := by
  have hr : floorDiv64 bcast_S_S256x1 rows (ValueIdx.ix2 r 0) = BitVec.ofNat 32 (r.val / 64) :=
    Words.floorDiv_64 ⟨r.val, by omega⟩
  have hk : floorDiv64 bcast_S_S1x768 cols (ValueIdx.ix2 0 k) = BitVec.ofNat 32 (k.val / 64) := Words.floorDiv_64 k
  have hg : gap (ValueIdx.ix2 r k) = IntOp.subi (BitVec.ofNat 32 (k.val / 64)) (BitVec.ofNat 32 (r.val / 64)) := by
    refine congrArg₂ IntOp.subi
      ((broadcastInDim_apply _ _ (floorDiv64 bcast_S_S1x768 cols) (ValueIdx.ix2 r k) (ValueIdx.ix2 0 k) ?_).trans hk)
      ((broadcastInDim_apply _ _ (floorDiv64 bcast_S_S256x1 rows) (ValueIdx.ix2 r k) (ValueIdx.ix2 r 0) ?_).trans hr)
    · intro a
      match a with
      | ⟨0, _⟩ => rfl
      | ⟨1, _⟩ => rfl
    · intro a
      match a with
      | ⟨0, _⟩ => rfl
      | ⟨1, _⟩ => rfl
  have hd : dist (ValueIdx.ix2 r k)
      = Words.clip (IntOp.subi (IntOp.addi (BitVec.ofNat 32 r.val) 512#32) (BitVec.ofNat 32 k.val)) := rfl
  have hb : band (ValueIdx.ix2 r k) = BitVec.ofBool (decide (r.val / 64 ≤ k.val / 64 ∧ k.val / 64 ≤ r.val / 64 + 8)) := by
    show IntOp.andi (IntOp.cmpi .sge (gap (ValueIdx.ix2 r k)) 0#32) (IntOp.cmpi .sle (gap (ValueIdx.ix2 r k)) 8#32) = _
    rw [hg]
    exact Words.valid_window ⟨k.val / 64, by omega⟩ ⟨r.val / 64, by omega⟩
  have hp : places (ValueIdx.ix3 r k 0)
      = Words.wrap 513#32 (Words.clip (IntOp.subi (IntOp.addi (BitVec.ofNat 32 r.val) 512#32) (BitVec.ofNat 32 k.val))) := rfl
  show Scalar.select (band (ValueIdx.ix2 r k)) (Host.gather _ x1 places (ValueIdx.ix3 h r k)) (Ideal.ofBits .f32 0xFF800000#32) = _
  rw [hb, Words.select_ofBool]
  refine if_congr Iff.rfl ?_ Scores.ofBits_bot
  refine Gathers.columns_apply 16 513 256 768 _ x1 places h r k _ ?_
  rw [hp]
  exact Words.clip_word r.val k.val r.isLt k.isLt

end Cert.KernelIdeal.Attend

end
-- ==== Proof.Block.lean ====
/-
  What the attention's kernel computes for a block of 256 queries over a window of `n` keys: at a query and a lane, the
  average of the window's values weighted by the exponentials of its scores.
-/
module

public import proofs.«01_k».proof.Proof.Gen.KernelIdeal.Skeleton
public import proofs.«01_k».proof.Proof.Scores
public import Idealize.ShloMosaic.Lib.MatmulPlain
public import Idealize.ShloMosaic.Lib.Pointwise.Reshape

@[expose] public section

set_option maxRecDepth 16384

noncomputable section

namespace Cert.KernelIdeal.Attend

open Cert.KernelIdeal Cert.KernelIdeal.Gen Idealize.ShloMosaic Idealize.ShloMosaic.ValueIdx

section Block

variable {n : ℕ} (q : FVec Ideal ⟨2, ![256, 128]⟩ .bf16) (k v : FVec Ideal ⟨2, ![n, 128]⟩ .bf16) (b : FVec Ideal ⟨2, ![256, n]⟩ .f32)

/-- The block's scores: the scaled products of its queries with the window's keys, plus the biases. -/
abbrev scores : FVec Ideal ⟨2, ![256, n]⟩ .f32 :=
  addf (mulf (matmul (DotDims.transposedRhs 256 128 n) none q k (constant ⟨2, ![256, n]⟩ .f32 0x00000000#32))
    (broadcast ⟨2, ![256, n]⟩ (Scalar.ofBits .f32 0x3DB504F3#32))) b

variable (hr : Shape.Reduces ⟨2, ![256, n]⟩ [1] ⟨1, ![256]⟩) (hc : Shape.ShapeCasts ⟨1, ![256]⟩ ⟨2, ![256, 1]⟩)
  (hn : Shape.Broadcasts ⟨2, ![256, 1]⟩ ⟨2, ![256, n]⟩) (hd : Shape.Broadcasts ⟨2, ![256, 1]⟩ ⟨2, ![256, 128]⟩)

/-- The exponentials of the scores, less each row's greatest. -/
abbrev weights : FVec Ideal ⟨2, ![256, n]⟩ .f32 :=
  exp (subf (scores q k b) (broadcastTo ⟨2, ![256, n]⟩ (shapeCast ⟨2, ![256, 1]⟩
    (multiReduction .maximumf [1] ⟨1, ![256]⟩ (scores q k b) 0xFF800000#32 hr (.inl rfl) rfl) hc) hn))

/-- The block's result. -/
abbrev result : FVec Ideal ⟨2, ![256, 128]⟩ .f32 :=
  divf (matmul (DotDims.plain 256 n 128) none (truncf .bf16 (weights q k b hr hc hn) bitsLt_bf16_f32) v
      (constant ⟨2, ![256, 128]⟩ .f32 0x00000000#32))
    (broadcastTo ⟨2, ![256, 128]⟩ (shapeCast ⟨2, ![256, 1]⟩
      (multiReduction .add [1] ⟨1, ![256]⟩ (weights q k b hr hc hn) 0x00000000#32 hr (.inl rfl) rfl) hc) hd)

theorem scores_apply (r : Fin 256) (j : Fin n) : scores q k b (ValueIdx.ix2 r j)
    = (∑ d : Fin 128, q (ValueIdx.ix2 r d) * k (ValueIdx.ix2 j d)) * Scores.scale + b (ValueIdx.ix2 r j) := by
  show (FloatOps.matmul (DotDims.transposedRhs 256 128 n) none q k (constant ⟨2, ![256, n]⟩ .f32 0x00000000#32) (ValueIdx.ix2 r j)) * _ + _ = _
  rw [Ideal.matmul_transposedRhs_apply]
  refine congrArg (· + _) (congrArg₂ (· * ·) ?_ rfl)
  exact (congrArg (· + _) Ideal.ofBits_zero_f32).trans (zero_add _)

theorem row_max_apply (r : Fin 256) :
    multiReduction .maximumf [1] ⟨1, ![256]⟩ (scores q k b) 0xFF800000#32 hr (.inl rfl) rfl (ValueIdx.ix1 r)
      = Finset.univ.fold max ⊥ (fun j : Fin n => scores q k b (ValueIdx.ix2 r j)) := by
  refine (Ideal.multiReduction_maximumf_single _ _ hr _ _ _).trans ?_
  refine congrArg₂ (fun (a : EReal) (f : Fin n → EReal) => Finset.univ.fold max a f) Scores.ofBits_bot (funext fun j => ?_)
  refine congrArg (scores q k b) (funext fun a => ?_)
  match a with
  | ⟨0, _⟩ => exact Fin.ext rfl
  | ⟨1, _⟩ => exact Fin.ext rfl

theorem column_apply (x : FVec Ideal ⟨1, ![256]⟩ .f32) (w : ℕ) (h : Shape.Broadcasts ⟨2, ![256, 1]⟩ ⟨2, ![256, w]⟩) (r : Fin 256) (j : Fin w) :
    broadcastTo ⟨2, ![256, w]⟩ (shapeCast ⟨2, ![256, 1]⟩ x hc) h (ValueIdx.ix2 r j) = x (ValueIdx.ix1 r) := by
  refine (broadcastTo_apply _ h (ValueIdx.ix2 r j) (ValueIdx.ix2 r 0) fun a => ?_).trans
    (shapeCast_apply x hc (ValueIdx.ix2 r 0) (ValueIdx.ix1 r) ?_)
  · match a with
    | ⟨0, _⟩ => rfl
    | ⟨1, _⟩ => rfl
  · rw [rowMajor_val1, rowMajor_val2 _ 1 rfl]
    show r.val = r.val * 1 + 0
    omega

theorem weights_apply (r : Fin 256) (j : Fin n) : weights q k b hr hc hn (ValueIdx.ix2 r j)
    = Ideal.exp (scores q k b (ValueIdx.ix2 r j) - Finset.univ.fold max ⊥ (fun j : Fin n => scores q k b (ValueIdx.ix2 r j))) := by
  show Ideal.exp (scores q k b (ValueIdx.ix2 r j) - broadcastTo ⟨2, ![256, n]⟩ _ hn (ValueIdx.ix2 r j)) = _
  rw [column_apply, row_max_apply]

theorem row_sum_apply (r : Fin 256) :
    multiReduction .add [1] ⟨1, ![256]⟩ (weights q k b hr hc hn) 0x00000000#32 hr (.inl rfl) rfl (ValueIdx.ix1 r)
      = ∑ j : Fin n, weights q k b hr hc hn (ValueIdx.ix2 r j) := by
  refine (Ideal.multiReduction_add_single _ _ hr _ _ _).trans ?_
  refine Finset.sum_congr rfl fun j _ => congrArg (weights q k b hr hc hn) (funext fun a => ?_)
  match a with
  | ⟨0, _⟩ => exact Fin.ext rfl
  | ⟨1, _⟩ => exact Fin.ext rfl

/-- The block's result at a query and a lane, where its scores are `s` and its values `u` at `n` positions from `a`. -/
theorem result_apply (r : Fin 256) (d : Fin 128) (a : ℕ) {s u : ℕ → EReal}
    (hs : ∀ j : Fin n, (∑ d : Fin 128, q (ValueIdx.ix2 r d) * k (ValueIdx.ix2 j d)) * Scores.scale + b (ValueIdx.ix2 r j) = s (a + j.val))
    (hu : ∀ j : Fin n, v (ValueIdx.ix2 j d) = u (a + j.val)) :
    result q k v b hr hc hn hd (ValueIdx.ix2 r d) = Softmax.average (Finset.Ico a (a + n)) s u := by
  rw [← Softmax.average_window n a (f := fun j => scores q k b (ValueIdx.ix2 r j)) (fun j => (scores_apply q k b r j).trans (hs j)) hu]
  show Ideal.div (FloatOps.matmul (DotDims.plain 256 n 128) none _ v _ (ValueIdx.ix2 r d)) (broadcastTo ⟨2, ![256, 128]⟩ _ hd (ValueIdx.ix2 r d)) = _
  rw [column_apply, row_sum_apply, Ideal.matmul_plain_apply]
  refine congrArg₂ Ideal.div ?_ (Finset.sum_congr rfl fun j _ => weights_apply q k b hr hc hn r j)
  refine ((congrArg (· + _) Ideal.ofBits_zero_f32).trans (zero_add _)).trans (Finset.sum_congr rfl fun j _ => ?_)
  exact congrArg (· * _) (weights_apply q k b hr hc hn r j)

/-- So a block of queries from `256 * i` over the window of `n` keys from `a`, its biases those of the distances and of the
    bands, is the attention. -/
theorem attention_of_block (x : Scores.Rows) (y : Scores.Biases) {B h i a : ℕ} (r : Fin 256) (d : Fin 128)
    (ha : a = max 512 (256 * i)) (hw : a + n = 256 * i + 768)
    (hq : ∀ e : Fin 128, q (ValueIdx.ix2 r e) = Scores.ent x (2048 * B + (256 * i + r.val)) (128 * h + e.val))
    (hk : ∀ (j : Fin n) (e : Fin 128), k (ValueIdx.ix2 j e) = Scores.ent x (2048 * B + (a + j.val - 512)) (2048 + 128 * h + e.val))
    (hv : ∀ j : Fin n, v (ValueIdx.ix2 j d) = Scores.ent x (2048 * B + (a + j.val - 512)) (4096 + 128 * h + d.val))
    (hb : ∀ j : Fin n, b (ValueIdx.ix2 r j)
      = if r.val / 64 ≤ (a + j.val - 256 * i) / 64 ∧ (a + j.val - 256 * i) / 64 ≤ r.val / 64 + 8
        then Scores.biasOf y h (Words.place (r.val + 512) (a + j.val - 256 * i)) else ⊥) :
    result q k v b hr hc hn hd (ValueIdx.ix2 r d) = Scores.attention x y B h (256 * i + r.val) d.val := by
  have hr' := r.isLt
  refine (result_apply q k v b hr hc hn hd r d a (s := Scores.score x y B h (256 * i + r.val)) (u := Scores.value x B h d.val)
    (fun j => ?_) (fun j => ?_)).trans (Softmax.average_restrict (fun p hp => ?_) (fun p _ hp => Scores.score_not_mem x y hp) _)
  · rw [hb j]
    unfold Scores.score
    have hj := j.isLt
    by_cases hm : a + j.val ∈ Scores.keys (256 * i + r.val)
    · rw [if_pos hm, if_pos (by rw [Scores.mem_keys] at hm; omega)]
      have hp : Words.place (256 * i + r.val + 512) (a + j.val) = Words.place (r.val + 512) (a + j.val - 256 * i) := by
        rw [← Words.place_add (256 * i) (r.val + 512)]
        congr 1 <;> omega
      rw [hp]
      refine congrArg (· * Scores.scale + _) (Finset.sum_congr rfl fun e _ => ?_)
      rw [hq, hk]
    · rw [if_neg hm, if_neg (by rw [Scores.mem_keys] at hm; omega), EReal.add_bot]
  · rw [hv j]
    unfold Scores.value
    rw [if_pos (by omega)]
  · rw [Scores.mem_keys] at hp
    exact Finset.mem_Ico.mpr (by omega)

end Block

/-- The three windows' payloads are that block, of 256 keys, -/
theorem pay2_eq (x0 : Vec Ideal S1x256x128 .bf16) (x1 x2 : Vec Ideal S1x256x128 .bf16) (x3 : Vec Ideal S1x256x256 .f32) :
    k0_pay2 x0 x1 x2 x3 = shapeCast S1x256x128 (result (n := 256) (shapeCast S256x128 x0 shapeCasts_S1x256x128_S256x128)
      (shapeCast S256x128 x1 shapeCasts_S1x256x128_S256x128) (shapeCast S256x128 x2 shapeCasts_S1x256x128_S256x128)
      (shapeCast S256x256 x3 shapeCasts_S1x256x256_S256x256) reduces_S256x256_S256 shapeCasts_S256_S256x1 broadcasts_S256x1_S256x256
      broadcasts_S256x1_S256x128) shapeCasts_S256x128_S1x256x128 := rfl

/-- of 512 keys, -/
theorem pay3_eq (x0 : Vec Ideal S1x256x128 .bf16) (x1 x2 : Vec Ideal S1x512x128 .bf16) (x3 : Vec Ideal S1x256x512 .f32) :
    k0_pay3 x0 x1 x2 x3 = shapeCast S1x256x128 (result (n := 512) (shapeCast S256x128 x0 shapeCasts_S1x256x128_S256x128)
      (shapeCast S512x128 x1 shapeCasts_S1x512x128_S512x128) (shapeCast S512x128 x2 shapeCasts_S1x512x128_S512x128)
      (shapeCast S256x512 x3 shapeCasts_S1x256x512_S256x512) reduces_S256x512_S256 shapeCasts_S256_S256x1 broadcasts_S256x1_S256x512
      broadcasts_S256x1_S256x128) shapeCasts_S256x128_S1x256x128 := rfl

/-- and of 768 keys. -/
theorem pay4_eq (x0 : Vec Ideal S1x256x128 .bf16) (x1 x2 : Vec Ideal S1x768x128 .bf16) (x3 : Vec Ideal S1x256x768 .f32) :
    k0_pay4 x0 x1 x2 x3 = shapeCast S1x256x128 (result (n := 768) (shapeCast S256x128 x0 shapeCasts_S1x256x128_S256x128)
      (shapeCast S768x128 x1 shapeCasts_S1x768x128_S768x128) (shapeCast S768x128 x2 shapeCasts_S1x768x128_S768x128)
      (shapeCast S256x768 x3 shapeCasts_S1x256x768_S256x768) reduces_S256x768_S256 shapeCasts_S256_S256x1 broadcasts_S256x1_S256x768
      broadcasts_S256x1_S256x128) shapeCasts_S256x128_S1x256x128 := rfl

end Cert.KernelIdeal.Attend

end
-- ==== Proof.Windows.lean ====
/-
  The attention's launch: what its four input windows hold at a point of the grid, and what the result array holds after
  it.
-/
module

public import proofs.«01_k».proof.Proof.Bias
public import proofs.«01_k».proof.Proof.Block
public import Idealize.ShloMosaic.Lib.ValueLayout

@[expose] public section

set_option maxRecDepth 16384

noncomputable section

namespace Cert.KernelIdeal.Attend

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (c : Dev nD)

/-- The projected rows, the first argument. -/
abbrev xs : Scores.Rows := m ((c.tc : Thread nD τ).loc main_arg0)

/-- The relative biases, the second argument. -/
abbrev ys : Scores.Biases := m ((c.tc : Thread nD τ).loc main_arg1)

/-- The grid's points, sequence by sequence, head by head, block by block. -/
theorem idx (t : Fin cfg0.N) :
    (win0_0.index t 0 = t.val / 128 ∧ win0_0.index t 1 = t.val % 8 ∧ win0_0.index t 2 = t.val / 8 % 16)
    ∧ (win0_1.index t 0 = t.val / 128 ∧ win0_1.index t 1 = 0 ∧ win0_1.index t 2 = 16 + t.val / 8 % 16)
    ∧ (win0_2.index t 0 = t.val / 128 ∧ win0_2.index t 1 = 0 ∧ win0_2.index t 2 = 32 + t.val / 8 % 16)
    ∧ (win0_3.index t 0 = t.val / 8 % 16 ∧ win0_3.index t 1 = 0 ∧ win0_3.index t 2 = 0)
    ∧ (win0_4.index t 0 = t.val / 128 ∧ win0_4.index t 1 = t.val % 8 ∧ win0_4.index t 2 = t.val / 8 % 16) :=
  (by decide +kernel : ∀ t : Fin grid0.N,
    (win0_0.index t 0 = t.val / 128 ∧ win0_0.index t 1 = t.val % 8 ∧ win0_0.index t 2 = t.val / 8 % 16)
    ∧ (win0_1.index t 0 = t.val / 128 ∧ win0_1.index t 1 = 0 ∧ win0_1.index t 2 = 16 + t.val / 8 % 16)
    ∧ (win0_2.index t 0 = t.val / 128 ∧ win0_2.index t 1 = 0 ∧ win0_2.index t 2 = 32 + t.val / 8 % 16)
    ∧ (win0_3.index t 0 = t.val / 8 % 16 ∧ win0_3.index t 1 = 0 ∧ win0_3.index t 2 = 0)
    ∧ (win0_4.index t 0 = t.val / 128 ∧ win0_4.index t 1 = t.val % 8 ∧ win0_4.index t 2 = t.val / 8 % 16)) t

/-- The array the first three windows read is the rows, sequence by sequence. -/
theorem V_rows (b : Fin 4) (s : Fin 2048) (k : Fin 6144) :
    (V m c main_v0 : S4x2048x6144.Idx → EReal) (ValueIdx.ix3 b s k) = Scores.ent (xs m c) (2048 * b.val + s.val) k.val := by
  have e : V m c main_v0 = shapeCast S4x2048x6144 (m ((c.tc : Thread nD τ).loc main_arg0) : FVec Ideal S8192x6144 .bf16) shapeCasts_S8192x6144_S4x2048x6144 := by
    unfold V hostOps0 hostOps0_1 hostOps0_2 hostOps0_3 hostOps0_4 hostOps0_5 hostOps0_6 hostOps0_7
    simp only [List.flatten_cons, List.flatten_nil, List.append_nil, List.cons_append, List.nil_append]
    after_results
    rfl
  rw [e]
  have hb := b.isLt
  have hs := s.isLt
  have hk := k.isLt
  refine (shapeCast_apply _ _ _ (ValueIdx.ix2 ⟨2048 * b.val + s.val, by omega⟩ k) ?_).trans (Scores.ent_eq _ _ rfl rfl)
  rw [rowMajor_val2 _ 6144 rfl, rowMajor_val3 _ (2048 * 6144) 6144 rfl rfl]
  show (2048 * b.val + s.val) * 6144 + k.val = b.val * (2048 * 6144) + s.val * 6144 + k.val
  omega

variable (t : Fin cfg0.N)

/-- The first window holds the point's queries, -/
theorem iblk_q (r : Fin 256) (d : Fin 128) : (iblk m c 0 t : S1x256x128.Idx → EReal) (ValueIdx.ix3 0 r d)
    = Scores.ent (xs m c) (2048 * (t.val / 128) + (256 * (t.val % 8) + r.val)) (128 * (t.val / 8 % 16) + d.val) := by
  obtain ⟨⟨e0, e1, e2⟩, -⟩ := idx t
  have ht : t.val < 512 := lt_of_lt_of_eq t.isLt N_0
  refine Eq.trans ?_ (V_rows m c ⟨t.val / 128, by omega⟩ ⟨256 * (t.val % 8) + r.val, by omega⟩
    ⟨128 * (t.val / 8 % 16) + d.val, by omega⟩)
  show (V m c main_v0 : S4x2048x6144.Idx → EReal) _ = _
  refine congrArg (V m c main_v0 : S4x2048x6144.Idx → EReal) (funext fun a => Fin.ext ?_)
  match a with
  | ⟨0, _⟩ => blk_simp [e0]
  | ⟨1, _⟩ =>
    blk_simp [e1]
    show t.val % 8 * 256 + r.val = 256 * (t.val % 8) + r.val
    omega
  | ⟨2, _⟩ =>
    blk_simp [e2]
    show (t.val / 8 % 16) * 128 + d.val = 128 * (t.val / 8 % 16) + d.val
    omega

/-- the second its head's keys, -/
theorem iblk_k (s : Fin 2048) (d : Fin 128) : (iblk m c 1 t : S1x2048x128.Idx → EReal) (ValueIdx.ix3 0 s d)
    = Scores.ent (xs m c) (2048 * (t.val / 128) + s.val) (2048 + 128 * (t.val / 8 % 16) + d.val) := by
  obtain ⟨-, ⟨e0, e1, e2⟩, -⟩ := idx t
  have ht : t.val < 512 := lt_of_lt_of_eq t.isLt N_0
  refine Eq.trans ?_ (V_rows m c ⟨t.val / 128, by omega⟩ ⟨s.val, by omega⟩
    ⟨2048 + 128 * (t.val / 8 % 16) + d.val, by omega⟩)
  show (V m c main_v0 : S4x2048x6144.Idx → EReal) _ = _
  refine congrArg (V m c main_v0 : S4x2048x6144.Idx → EReal) (funext fun a => Fin.ext ?_)
  match a with
  | ⟨0, _⟩ => blk_simp [e0]
  | ⟨1, _⟩ => blk_simp [e1]
  | ⟨2, _⟩ =>
    blk_simp [e2]
    show (16 + t.val / 8 % 16) * 128 + d.val = 2048 + 128 * (t.val / 8 % 16) + d.val
    omega

/-- the third their values, -/
theorem iblk_v (s : Fin 2048) (d : Fin 128) : (iblk m c 2 t : S1x2048x128.Idx → EReal) (ValueIdx.ix3 0 s d)
    = Scores.ent (xs m c) (2048 * (t.val / 128) + s.val) (4096 + 128 * (t.val / 8 % 16) + d.val) := by
  obtain ⟨-, -, ⟨e0, e1, e2⟩, -⟩ := idx t
  have ht : t.val < 512 := lt_of_lt_of_eq t.isLt N_0
  refine Eq.trans ?_ (V_rows m c ⟨t.val / 128, by omega⟩ ⟨s.val, by omega⟩
    ⟨4096 + 128 * (t.val / 8 % 16) + d.val, by omega⟩)
  show (V m c main_v0 : S4x2048x6144.Idx → EReal) _ = _
  refine congrArg (V m c main_v0 : S4x2048x6144.Idx → EReal) (funext fun a => Fin.ext ?_)
  match a with
  | ⟨0, _⟩ => blk_simp [e0]
  | ⟨1, _⟩ => blk_simp [e1]
  | ⟨2, _⟩ =>
    blk_simp [e2]
    show (32 + t.val / 8 % 16) * 128 + d.val = 4096 + 128 * (t.val / 8 % 16) + d.val
    omega

/-- and the fourth the head's table of biases. -/
theorem iblk_b (r : Fin 256) (k : Fin 768) : (iblk m c 3 t : S1x256x768.Idx → EReal) (ValueIdx.ix3 0 r k)
    = if r.val / 64 ≤ k.val / 64 ∧ k.val / 64 ≤ r.val / 64 + 8
      then Scores.biasOf (ys m c) (t.val / 8 % 16) (Words.place (r.val + 512) k.val) else ⊥ := by
  obtain ⟨-, -, -, ⟨e0, e1, e2⟩, -⟩ := idx t
  have e : (iblk m c 3 t : S1x256x768.Idx → EReal) (ValueIdx.ix3 0 r k)
      = table (ys m c) (ValueIdx.ix3 ⟨t.val / 8 % 16, by omega⟩ r k) := by
    show (V m c main_v31 : S16x256x768.Idx → EReal) _ = _
    rw [V_table]
    refine congrArg (table (ys m c)) (funext fun a => Fin.ext ?_)
    match a with
    | ⟨0, _⟩ => blk_simp [e0]
    | ⟨1, _⟩ => blk_simp [e1]
    | ⟨2, _⟩ => blk_simp [e2]
  rw [e, table_apply]
  exact if_congr Iff.rfl (Scores.biasOf_eq _ _ rfl rfl) rfl

/-- A rectangle of a block, read as a matrix. -/
theorem load_apply {e : EltTy} {N M A B : ℕ} (X : Vec Ideal ⟨3, ![1, N, M]⟩ e) (off : Fin 3 → ℕ) (inb)
    (h : Shape.ShapeCasts ⟨3, ![1, A, B]⟩ ⟨2, ![A, B]⟩) (i : Fin A) (j : Fin B) (i' : Fin N) (j' : Fin M)
    (hi : i'.val = off 1 + i.val) (hj : j'.val = off 2 + j.val) :
    shapeCast ⟨2, ![A, B]⟩ (View.ld X (Rect.unit (s := ⟨3, ![1, N, M]⟩) off ![1, A, B] inb)) h (ValueIdx.ix2 i j) = X (ValueIdx.ix3 0 i' j') := by
  refine (shapeCast_1ab_ab_apply _ h i j).trans (View.ld_unit_apply_of _ _ _ _ _ _ fun a => ?_)
  match a with
  | ⟨0, _⟩ =>
    have h0 : off 0 + 1 ≤ 1 := inb 0
    show (0 : ℕ) = off 0 + 0
    omega
  | ⟨1, _⟩ => exact hi
  | ⟨2, _⟩ => exact hj

/-- Where the window of keys of a later block begins. -/
theorem off_eq (h2 : 2 ≤ t.val % 8) : k0_off1 (grid0.coords t) 1 = 256 * (t.val % 8) - 512 ∧ k0_off1 (grid0.coords t) 2 = 0 :=
  (by decide +kernel : ∀ t : Fin grid0.N, 2 ≤ t.val % 8 →
    k0_off1 (grid0.coords t) 1 = 256 * (t.val % 8) - 512 ∧ k0_off1 (grid0.coords t) 2 = 0) t h2

/-- The block over a window of `n` keys that begins at row `o` of the sequence's keys and at column `u` of the table is the
    attention of the point's queries, where the window begins 512 keys before the block of queries, or with the sequence. -/
theorem window_apply {n o u : ℕ} (ho : o = max 512 (256 * (t.val % 8)) - 512) (hw : 512 + o + n = 256 * (t.val % 8) + 768)
    (hu : 256 * (t.val % 8) + u = 512 + o) {offk offv : Fin 3 → ℕ} (hk1 : offk 1 = o) (hk2 : offk 2 = 0)
    (hv1 : offv 1 = o) (hv2 : offv 2 = 0) (ik iv hs hl hr hc hn hd)
    (r : Fin 256) (d : Fin 128) (w : FVec Ideal ⟨2, ![256, n]⟩ .f32)
    (hb : ∀ (j : Fin n) (h : u + j.val < 768), w (ValueIdx.ix2 r j) = (iblk m c 3 t : S1x256x768.Idx → EReal) (ValueIdx.ix3 0 r ⟨u + j.val, h⟩)) :
    result (n := n) (shapeCast S256x128 (iblk m c 0 t : Vec Ideal S1x256x128 .bf16) hs)
      (shapeCast ⟨2, ![n, 128]⟩ (View.ld (iblk m c 1 t : Vec Ideal S1x2048x128 .bf16) (Rect.unit (s := S1x2048x128) offk ![1, n, 128] ik)) hl)
      (shapeCast ⟨2, ![n, 128]⟩ (View.ld (iblk m c 2 t : Vec Ideal S1x2048x128 .bf16) (Rect.unit (s := S1x2048x128) offv ![1, n, 128] iv)) hl)
      w hr hc hn hd (ValueIdx.ix2 r d)
      = Scores.attention (xs m c) (ys m c) (t.val / 128) (t.val / 8 % 16) (256 * (t.val % 8) + r.val) d.val := by
  have ht : t.val < 512 := lt_of_lt_of_eq t.isLt N_0
  refine attention_of_block _ _ _ _ hr hc hn hd (xs m c) (ys m c) (a := 512 + o) r d (by omega) hw
    (fun e => ?_) (fun j e => ?_) (fun j => ?_) (fun j => ?_)
  · exact (shapeCast_1ab_ab_apply _ hs r e).trans (iblk_q m c t r e)
  · have hj := j.isLt
    refine (load_apply _ offk ik hl j e ⟨o + j.val, by omega⟩ e (by rw [hk1]) (by rw [hk2]; omega)).trans
      ((iblk_k m c t ⟨o + j.val, by omega⟩ e).trans ?_)
    congr 2
    show o + j.val = _
    omega
  · have hj := j.isLt
    refine (load_apply _ offv iv hl j d ⟨o + j.val, by omega⟩ d (by rw [hv1]) (by rw [hv2]; omega)).trans
      ((iblk_v m c t ⟨o + j.val, by omega⟩ d).trans ?_)
    congr 2
    show o + j.val = _
    omega
  · have hj := j.isLt
    refine (hb j (by omega)).trans ((iblk_b m c t r ⟨u + j.val, by omega⟩).trans ?_)
    have e : 512 + o + j.val - 256 * (t.val % 8) = u + j.val := by omega
    rw [e]

/-- What the result window holds after a point of the first block of a head: the attention of its 256 queries; -/
theorem point_A (h0 : t.val % 8 = 0) (h1 : ¬t.val % 8 = 1) (h2 : ¬2 ≤ t.val % 8) (r : Fin 256) (d : Fin 128) :
    out0_A_4 c (grid0.coords t) (ms0_0 t) (hs0_0 t) (ms0_1 t) (hs0_1 t) (ms0_2 t) (hs0_2 t) (ms0_3 t) (hs0_3 t) (ms0_4 t) (hs0_4 t)
      ((hcond0_0 t).mpr h0) (fun h => h1 ((hcond0_1 t).mp h)) (fun h => h2 ((hcond0_2 t).mp h))
      (iblk m c 0 t) (iblk m c 1 t) (iblk m c 2 t) (iblk m c 3 t) (ValueIdx.ix3 0 r d)
      = Scores.attention (xs m c) (ys m c) (t.val / 128) (t.val / 8 % 16) (256 * (t.val % 8) + r.val) d.val := by
  unfold out0_A_4
  rw [View.read_writes_eq_canon _ _ _ (cover0_A_4 _ _ _ _ _ _ _ _ _ _ _ _ _ _ _ _ _ _ _)]
  unfold kernelRun0_A
  dsimp only
  sl_unfold_words
  frame_out
  rw [pay2_eq]
  exact (shapeCast_ab_1ab_apply _ _ 0 r d).trans
    (window_apply m c t (n := 256) (o := 0) (u := 512) (by omega) (by omega) (by omega) rfl rfl rfl rfl _ _ _ _ _ _ _ _ r d _
      fun j h => load_apply _ _ _ _ r j r ⟨_, h⟩ (Nat.zero_add _).symm rfl)

/-- of the second block; -/
theorem point_B (h0 : ¬t.val % 8 = 0) (h1 : t.val % 8 = 1) (h2 : ¬2 ≤ t.val % 8) (r : Fin 256) (d : Fin 128) :
    out0_B_4 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) ((hcond0_1 t).mpr h1) (fun h => h2 ((hcond0_2 t).mp h))
      (iblk m c 0 t) (iblk m c 1 t) (iblk m c 2 t) (iblk m c 3 t) (ValueIdx.ix3 0 r d)
      = Scores.attention (xs m c) (ys m c) (t.val / 128) (t.val / 8 % 16) (256 * (t.val % 8) + r.val) d.val := by
  unfold out0_B_4
  rw [View.read_writes_eq_canon _ _ _ (cover0_B_4 _ _ _ _ _ _ _ _ _ _ _ _ _ _ _ _ _ _ _)]
  unfold kernelRun0_B
  dsimp only
  sl_unfold_words
  frame_out
  rw [pay3_eq]
  exact (shapeCast_ab_1ab_apply _ _ 0 r d).trans
    (window_apply m c t (n := 512) (o := 0) (u := 256) (by omega) (by omega) (by omega) rfl rfl rfl rfl _ _ _ _ _ _ _ _ r d _
      fun j h => load_apply _ _ _ _ r j r ⟨_, h⟩ (Nat.zero_add _).symm rfl)

/-- and of a later one. -/
theorem point_C (h0 : ¬t.val % 8 = 0) (h1 : ¬t.val % 8 = 1) (h2 : 2 ≤ t.val % 8) (r : Fin 256) (d : Fin 128) :
    out0_C_4 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (fun h => h1 ((hcond0_1 t).mp h)) ((hcond0_2 t).mpr h2)
      (iblk m c 0 t) (iblk m c 1 t) (iblk m c 2 t) (iblk m c 3 t) (ValueIdx.ix3 0 r d)
      = Scores.attention (xs m c) (ys m c) (t.val / 128) (t.val / 8 % 16) (256 * (t.val % 8) + r.val) d.val := by
  obtain ⟨o1, o2⟩ := off_eq t h2
  unfold out0_C_4
  rw [View.read_writes_eq_canon _ _ _ (cover0_C_4 _ _ _ _ _ _ _ _ _ _ _ _ _ _ _ _ _ _ _)]
  unfold kernelRun0_C
  dsimp only
  sl_unfold_words
  frame_out
  rw [pay4_eq]
  exact (shapeCast_ab_1ab_apply _ _ 0 r d).trans
    (window_apply m c t (n := 768) (o := 256 * (t.val % 8) - 512) (u := 0) (by omega) (by omega) (by omega) o1 o2 o1 o2 _ _ _ _ _ _ _ _ r d _
      fun j h => (shapeCast_1ab_ab_apply _ _ r j).trans (congrArg (fun k => (iblk m c 3 t : S1x256x768.Idx → EReal) (ValueIdx.ix3 0 r k))
        (Fin.ext (Nat.zero_add _).symm)))

/-- The attention as an array: sequence, query, and lane of a head. -/
def attended (x : Scores.Rows) (y : Scores.Biases) : S4x2048x2048.Idx → EReal := fun i =>
  Scores.attention x y (i 0).val ((i 2).val / 128) (i 1).val ((i 2).val % 128)

theorem attended_eq (x : Scores.Rows) (y : Scores.Biases) (i : S4x2048x2048.Idx) {B s h d : ℕ} (h0 : (i 0 : ℕ) = B)
    (h1 : (i 1 : ℕ) = s) (h2 : (i 2 : ℕ) = h * 128 + d) (hd : d < 128) : attended x y i = Scores.attention x y B h s d := by
  unfold attended
  rw [h0, h1, h2]
  congr 1 <;> omega

/-- After the launch the result array holds the attention. -/
theorem final : (dats m 0 c).arrAt 4 cfg0.N = attended (xs m c) (ys m c) := by
  refine (dats m 0 c).arrAt_eq_of_covers 4 _ (by decide +kernel) fun t hf y => ?_
  obtain ⟨-, -, -, -, ⟨e0, e1, e2⟩⟩ := idx t
  have ht : t.val < 512 := lt_of_lt_of_eq t.isLt N_0
  have p0 : (((win0_4.blk t).view.emb y) 0 : ℕ) = t.val / 128 + (y 0 : ℕ) := by blk_simp [e0]
  have p1 : (((win0_4.blk t).view.emb y) 1 : ℕ) = t.val % 8 * 256 + (y 1 : ℕ) := by blk_simp [e1]
  have p2 : (((win0_4.blk t).view.emb y) 2 : ℕ) = t.val / 8 % 16 * 128 + (y 2 : ℕ) := by blk_simp [e2]
  have y0 : (y 0 : ℕ) < 1 := (y 0).isLt
  have y1 : (y 1 : ℕ) < 256 := (y 1).isLt
  have y2 : (y 2 : ℕ) < 128 := (y 2).isLt
  refine Eq.trans ?_ (attended_eq (xs m c) (ys m c) ((win0_4.blk t).view.emb y) (B := t.val / 128) (h := t.val / 8 % 16)
    (s := 256 * (t.val % 8) + (y 1 : ℕ)) (d := (y 2 : ℕ)) (p0.trans (by omega)) (p1.trans (by omega)) p2 y2).symm
  blk_simp
  rw [after0_4]
  have ey : (y : S1x256x128.Idx) = ValueIdx.ix3 0 ⟨(y 1 : ℕ), y1⟩ ⟨(y 2 : ℕ), y2⟩ := by
    funext a
    match a with
    | ⟨0, _⟩ => exact Fin.ext (by show (y 0 : ℕ) = 0; omega)
    | ⟨1, _⟩ => rfl
    | ⟨2, _⟩ => rfl
  by_cases h0 : t.val % 8 = 0
  · rw [outsAt0_A m c t h0 (by omega) (by omega)]
    exact (congrArg _ ey).trans (point_A m c t h0 (by omega) (by omega) ⟨(y 1 : ℕ), y1⟩ ⟨(y 2 : ℕ), y2⟩)
  · by_cases h1 : t.val % 8 = 1
    · rw [outsAt0_B m c t h0 h1 (by omega)]
      exact (congrArg _ ey).trans (point_B m c t h0 h1 (by omega) ⟨(y 1 : ℕ), y1⟩ ⟨(y 2 : ℕ), y2⟩)
    · rw [outsAt0_C m c t h0 h1 (by omega)]
      exact (congrArg _ ey).trans (point_C m c t h0 h1 (by omega) ⟨(y 1 : ℕ), y1⟩ ⟨(y 2 : ℕ), y2⟩)

/-- So every run of the program ends with the attention in the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v32) = attended (xs m c) (ys m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Attend

end
-- ==== Proof.Reference.lean ====
/-
  The attention's reference program, read at an index: the keys and values of a band of nine chunks, the biases of the
  distances, the scores, and the weighted sum.
-/
module

public import proofs.«01_k».proof.Proof.Gen.ReferenceIdeal.Read
public import proofs.«01_k».proof.Proof.Scores
public import proofs.«01_k».proof.Proof.Gathers
public import Idealize.ShloMosaic.Lib.KernelVsHost
public import Idealize.ShloMosaic.Lib.Pointwise.Reshape

@[expose] public section

set_option maxRecDepth 16384

noncomputable section

namespace Cert.ReferenceIdeal.Attend

open Cert.ReferenceIdeal Cert.ReferenceIdeal.Gen Cert.ReferenceIdeal.Read Idealize.ShloMosaic Cert.Scores Cert.Gathers

section Band

variable (z : S4x2048x2048.Idx → EReal) (v : S_.Idx → EReal) (w : IVec S32x9x1 32)

/-- The sequences with 512 positions before their first ones, at an index. -/
theorem padded_apply (i : S4x2560x2048.Idx) :
    pad S4x2560x2048 ![0, 512, 0] ![0, 0, 0] ![0, 0, 0] z v pads_S4x2048x2048_S4x2560x2048_000_51200_000 h_S_ i
      = if 512 ≤ (i 1).val then
          z (ValueIdx.ix3 (n0 := 4) (n1 := 2048) (n2 := 2048) (i 0) ⟨(i 1).val - 512, by have := (i 1).isLt; change (i 1).val < 2560 at this; omega⟩ (i 2))
        else v (Shape.Idx.first h_S_) := by
  by_cases h : 512 ≤ (i 1).val
  · rw [if_pos h]
    refine pad_apply_of_inside _ _ _ z v _ _ i _ fun a => ?_
    match a with
    | ⟨0, _⟩ => show (i 0).val = 0 + (i 0).val * 1; omega
    | ⟨1, _⟩ => show (i 1).val = 512 + ((i 1).val - 512) * 1; omega
    | ⟨2, _⟩ => show (i 2).val = 0 + (i 2).val * 1; omega
  · rw [if_neg h]
    exact pad_apply_of_not_inside _ _ _ z v _ _ i 1 fun hh => h hh.1

/-- A band's position `k` is its chunk `k / 64`'s position `k % 64`. -/
theorem flat_apply (f : S4x32x9x64x16x128.Idx → EReal) (b : Fin 4) (n : Fin 32) (k : Fin 576) (h : Fin 16) (d : Fin 128) :
    shapeCast S4x32x576x16x128 f shapeCasts_S4x32x9x64x16x128_S4x32x576x16x128 (ValueIdx.ix5 b n k h d)
      = f (Gathers.ix6 b n (⟨k.val / 64, by omega⟩ : Fin 9) (⟨k.val % 64, by omega⟩ : Fin 64) h d) := by
  refine shapeCast_apply f _ _ _ ?_
  rw [rowMajor_val5 _ 37748736 1179648 2048 128 rfl rfl rfl rfl, rowMajor_val6 _ 37748736 1179648 131072 2048 128 rfl rfl rfl rfl rfl]
  show b.val * 37748736 + n.val * 1179648 + (k.val / 64) * 131072 + (k.val % 64) * 2048 + h.val * 128 + d.val
    = b.val * 37748736 + n.val * 1179648 + k.val * 2048 + h.val * 128 + d.val
  omega

/-- Chunk `p`'s position `e` is the sequence's position `64 * p + e`. -/
theorem chunk_apply (f : S4x2560x2048.Idx → EReal) (b : Fin 4) (p : Fin 40) (e : Fin 64) (h : Fin 16) (d : Fin 128) :
    shapeCast S4x40x64x16x128 f shapeCasts_S4x2560x2048_S4x40x64x16x128 (ValueIdx.ix5 b p e h d)
      = f (ValueIdx.ix3 b (⟨64 * p.val + e.val, by omega⟩ : Fin 2560) (⟨128 * h.val + d.val, by omega⟩ : Fin 2048)) := by
  refine shapeCast_apply f _ _ _ ?_
  rw [rowMajor_val5 _ 5242880 131072 2048 128 rfl rfl rfl rfl, rowMajor_val3 _ 5242880 2048 rfl rfl]
  show b.val * 5242880 + (64 * p.val + e.val) * 2048 + (128 * h.val + d.val)
    = b.val * 5242880 + p.val * 131072 + e.val * 2048 + h.val * 128 + d.val
  omega

/-- The band of nine chunks of chunk `n`, at its position `k`: position `64 * n + k` of the padded sequence. -/
theorem band_apply (hw : ∀ (n : Fin 32) (u : Fin 9),
      w (ValueIdx.ix3 n u 0) = Words.wrap 40#32 (IntOp.addi (BitVec.ofNat 32 n.val) (BitVec.ofNat 32 u.val)))
    (b : Fin 4) (n : Fin 32) (k : Fin 576) (h : Fin 16) (d : Fin 128) :
    shapeCast S4x32x576x16x128 (Host.gather gather_S4x40x64x16x128_S32x9x1_S4x32x9x64x16x128_0345_1_n_n_1_2_416416128
        (shapeCast S4x40x64x16x128 (pad S4x2560x2048 ![0, 512, 0] ![0, 0, 0] ![0, 0, 0] z v
          pads_S4x2048x2048_S4x2560x2048_000_51200_000 h_S_) shapeCasts_S4x2560x2048_S4x40x64x16x128) w)
      shapeCasts_S4x32x9x64x16x128_S4x32x576x16x128 (ValueIdx.ix5 b n k h d)
      = if 512 ≤ 64 * n.val + k.val then
          z (ValueIdx.ix3 b (⟨64 * n.val + k.val - 512, by omega⟩ : Fin 2048) (⟨128 * h.val + d.val, by omega⟩ : Fin 2048))
        else v (Shape.Idx.first h_S_) := by
  have hk : 64 * (n.val + k.val / 64) + k.val % 64 = 64 * n.val + k.val := by omega
  rw [flat_apply]
  refine (chunks_apply _ _ w b n _ _ h d ⟨n.val + k.val / 64, by omega⟩ ?_).trans ?_
  · rw [hw]; exact Words.band_word n _
  rw [chunk_apply, padded_apply]
  have e : (⟨64 * (n.val + k.val / 64) + k.val % 64, by omega⟩ : Fin 2560) = ⟨64 * n.val + k.val, by omega⟩ := Fin.ext hk
  rw [e]

end Band

variable (x : Rows) (y : Biases)

/-- The word that picks a band's chunk, for the keys. -/
theorem band_keys (n : Fin 32) (u : Fin 9) : val_main_v22 (F := Ideal) (ValueIdx.ix3 n u 0)
    = Words.wrap 40#32 (IntOp.addi (BitVec.ofNat 32 n.val) (BitVec.ofNat 32 u.val)) := by
  simp only [val_main_v22_apply]
  rfl

/-- The word that picks a band's chunk, for the values. -/
theorem band_values (n : Fin 32) (u : Fin 9) : val_main_v30 (F := Ideal) (ValueIdx.ix3 n u 0)
    = Words.wrap 40#32 (IntOp.addi (BitVec.ofNat 32 n.val) (BitVec.ofNat 32 u.val)) := by
  simp only [val_main_v30_apply]
  rfl

/-- The word that picks a distance's bias. -/
theorem place_word (q : Fin 64) (k : Fin 576) : val_main_v53 (F := Ideal) (ValueIdx.ix3 q k 0)
    = Words.wrap 513#32 (Words.clip (IntOp.subi (IntOp.addi (BitVec.ofNat 32 q.val) 512#32) (BitVec.ofNat 32 k.val))) := by
  simp only [val_main_v53_apply]
  rfl

/-- The biases at a head, a query of a chunk and a key of its band. -/
theorem bias_apply (h : Fin 16) (q : Fin 64) (k : Fin 576) :
    val_main_v54 (F := Ideal) y (ValueIdx.ix3 h q k) = biasOf y h.val (Words.place (q.val + 512) k.val) := by
  unfold val_main_v54
  refine (columns_apply 16 513 64 576 _ y _ h q k ⟨_, Words.place_lt (q.val + 512) k.val⟩ ?_).trans (biasOf_eq y _ rfl rfl)
  rw [place_word]
  exact Words.clip_word q.val k.val (by omega) (by omega)

/-- A band's key counts where it is not before the sequence's first. -/
theorem valid_apply (n : Fin 32) (k : Fin 576) : val_main_v66 (F := Ideal) (ValueIdx.ix2 n k)
    = BitVec.ofBool (decide (8 ≤ n.val + k.val / 64)) := by
  rw [← Words.valid_band n ⟨k.val / 64, by omega⟩]
  show _ = IntOp.cmpi .sge (IntOp.addi (IntOp.subi (BitVec.ofNat 32 n.val) 8#32) (BitVec.ofNat 32 (k.val / 64))) 0#32
  rw [← Words.floorDiv_64 ⟨k.val, by omega⟩]
  rfl

/-- The rows cut out of the argument, at a sequence, a position and a column counted from `o`. -/
theorem row_apply (i : S4x2048x6144.Idx) {r c : ℕ} (hr : 2048 * (i 0).val + (i 1).val = r) (hc : (i 2).val = c) :
    val_main_v1 (F := Ideal) x i = ent x r c := by
  have h2 : (i 2).val < 6144 := (i 2).isLt
  rw [val_main_v1_apply]
  refine ent_eq x _ ?_ ?_
  · show (((i 0).val * 2048 + (i 1).val) * 6144 + (i 2).val) / 6144 = r
    omega
  · show (((i 0).val * 2048 + (i 1).val) * 6144 + (i 2).val) % 6144 = c
    omega

/-- The queries by chunks. -/
theorem query_apply (b : Fin 4) (n : Fin 32) (q : Fin 64) (h : Fin 16) (d : Fin 128) :
    val_main_v5 (F := Ideal) x (ValueIdx.ix5 b n q h d) = ent x (2048 * b.val + (64 * n.val + q.val)) (128 * h.val + d.val) := by
  rw [val_main_v5_apply, val_main_v2_apply]
  refine row_apply x _ ?_ ?_
  · show 2048 * ((((((b.val * 32 + n.val) * 64 + q.val) * 16 + h.val) * 128 + d.val)) / 4194304)
      + (((((b.val * 32 + n.val) * 64 + q.val) * 16 + h.val) * 128 + d.val)) / 2048 % 2048 = _
    omega
  · show (((((b.val * 32 + n.val) * 64 + q.val) * 16 + h.val) * 128 + d.val)) % 2048 = _
    omega

/-- The keys by bands. -/
theorem key_apply (b : Fin 4) (n : Fin 32) (k : Fin 576) (h : Fin 16) (d : Fin 128) (hp : 512 ≤ 64 * n.val + k.val) :
    val_main_v24 (F := Ideal) x (ValueIdx.ix5 b n k h d)
      = ent x (2048 * b.val + (64 * n.val + k.val - 512)) (2048 + 128 * h.val + d.val) := by
  refine (band_apply (val_main_v3 (F := Ideal) x) (val_main_call0_v0 (F := Ideal)) _ band_keys b n k h d).trans ?_
  rw [if_pos hp, val_main_v3_apply]
  refine row_apply x _ rfl ?_
  show 2048 + (128 * h.val + d.val) = _
  omega

/-- The values by bands: zero before the sequence's first. -/
theorem value_apply (b : Fin 4) (n : Fin 32) (k : Fin 576) (h : Fin 16) (d : Fin 128) :
    val_main_v32 (F := Ideal) x (ValueIdx.ix5 b n k h d) = value x b.val h.val d.val (64 * n.val + k.val) := by
  refine (band_apply (val_main_v4 (F := Ideal) x) (val_main_call1_v0 (F := Ideal)) _ band_values b n k h d).trans ?_
  unfold value
  refine if_congr Iff.rfl ?_ ?_
  · rw [val_main_v4_apply]
    refine row_apply x _ rfl ?_
    show 4096 + (128 * h.val + d.val) = _
    omega
  · exact sitofp_zero (φ := .f32)

/-- The scores, `⊥` where the query does not attend to the key. -/
theorem score_apply (b : Fin 4) (n : Fin 32) (h : Fin 16) (q : Fin 64) (k : Fin 576) :
    val_main_v71 (F := Ideal) x y (ValueIdx.ix5 b n h q k) = score x y b.val h.val (64 * n.val + q.val) (64 * n.val + k.val) := by
  have hm : 64 * n.val + k.val ∈ keys (64 * n.val + q.val) ↔ 8 ≤ n.val + k.val / 64 := by
    rw [mem_keys]; omega
  have hv : val_main_call4_v1 (F := Ideal) (ValueIdx.ix5 b n h q k) = BitVec.ofBool (decide (8 ≤ n.val + k.val / 64)) := by
    rw [val_main_call4_v1_apply, val_main_v67_apply, ← valid_apply]
    rfl
  show Scalar.select (val_main_call4_v1 (F := Ideal) (ValueIdx.ix5 b n h q k)) _ _ = _
  rw [hv, Words.select_ofBool]
  unfold score
  by_cases h8 : 8 ≤ n.val + k.val / 64
  · rw [if_pos h8, if_pos (hm.mpr h8)]
    show val_main_v33 (F := Ideal) x (ValueIdx.ix5 b n h q k) * scale + val_main_v69 (F := Ideal) y (ValueIdx.ix5 b n h q k) = _
    refine congrArg₂ (· + ·) (congrArg (· * scale) ?_) ?_
    · rw [val_main_v33_apply]
      refine Finset.sum_congr rfl fun d _ => congrArg₂ (· * ·) ?_ ?_
      · exact query_apply x b n q h d
      · exact key_apply x b n k h d (by omega)
    · rw [val_main_v69_apply, val_main_v68_apply]
      rw [show Words.place (64 * n.val + q.val + 512) (64 * n.val + k.val) = Words.place (q.val + 512) k.val by
        rw [Nat.add_assoc]; exact Words.place_add _ _ _]
      have e : idx_main_v68 (idx_main_v69 (ValueIdx.ix5 b n h q k)) = ValueIdx.ix3 h q k := by
        funext a
        match a with
        | ⟨0, _⟩ => rfl
        | ⟨1, _⟩ => rfl
        | ⟨2, _⟩ => rfl
      rw [e]
      exact bias_apply y h q k
  · rw [if_neg h8, if_neg (fun hk => h8 (hm.mp hk))]
    exact ofBits_bot

/-- The greatest entry along the last axis of five, from `⊥`. -/
theorem row_max {b n h q w : ℕ} (f : FVec Ideal ⟨5, ![b, n, h, q, w]⟩ .f32) (z : FVec Ideal S_ .f32)
    (h' : Shape.ReducesTo ⟨5, ![b, n, h, q, w]⟩ [4] ⟨4, ![b, n, h, q]⟩) (hr : Shape.Reduces ⟨5, ![b, n, h, q, w]⟩ [4] ⟨4, ![b, n, h, q]⟩)
    (hz : z (Shape.Idx.first h_S_) = ⊥) (i0 : Fin b) (i1 : Fin n) (i2 : Fin h) (i3 : Fin q) :
    Host.reduce (FloatOps.maximumf (F := Ideal) (φ := .f32)) f z h' h_S_ (ValueIdx.ix4 i0 i1 i2 i3)
      = Finset.univ.fold max ⊥ (fun k : Fin w => f (ValueIdx.ix5 i0 i1 i2 i3 k)) := by
  refine (Host.reduce_eq_fold_single (FloatOps.maximumf (F := Ideal) (φ := .f32)) f z h' hr h_S_ _).trans ?_
  refine congrArg₂ (fun (a : EReal) (f : Fin w → EReal) => Finset.univ.fold max a f) hz (funext fun k => ?_)
  refine congrArg f (funext fun a => ?_)
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

theorem reduces_last : Shape.Reduces S4x32x16x64x576 [4] S4x32x16x64 := by decide

/-- A row's greatest score. -/
theorem max_apply (b : Fin 4) (n : Fin 32) (h : Fin 16) (q : Fin 64) :
    val_main_v74 (F := Ideal) x y (ValueIdx.ix4 b n h q)
      = Finset.univ.fold max ⊥ (fun k : Fin 576 => val_main_v71 (F := Ideal) x y (ValueIdx.ix5 b n h q k)) := by
  have hz : val_main_cst_15 (F := Ideal) (Shape.Idx.first h_S_) = ⊥ := (val_main_cst_15_apply _).trans ofBits_bot
  have hz' : val_main_cst_16 (F := Ideal) (idx_main_v73 (ValueIdx.ix4 b n h q)) = ⊥ := (val_main_cst_16_apply _).trans ofBits_bot
  rw [val_main_v74_apply, val_main_v73_apply, hz']
  refine (max_eq_right (bot_le (α := EReal))).trans ?_
  unfold val_main_v72
  generalize val_main_v71 (F := Ideal) x y = f
  exact row_max (b := 4) (n := 32) (h := 16) (q := 64) (w := 576) f _ _ reduces_last hz b n h q

/-- The exponential of a score less its row's greatest. -/
theorem exp_apply (b : Fin 4) (n : Fin 32) (h : Fin 16) (q : Fin 64) (k : Fin 576) :
    val_main_v78 (F := Ideal) x y (ValueIdx.ix5 b n h q k)
      = Ideal.exp (val_main_v71 (F := Ideal) x y (ValueIdx.ix5 b n h q k) - val_main_v74 (F := Ideal) x y (ValueIdx.ix4 b n h q)) := by
  have e : idx_main_v75 (idx_main_v76 (ValueIdx.ix5 b n h q k)) = ValueIdx.ix4 b n h q := by
    funext a
    match a with
    | ⟨0, _⟩ => rfl
    | ⟨1, _⟩ => rfl
    | ⟨2, _⟩ => rfl
    | ⟨3, _⟩ => rfl
  rw [val_main_v78_apply, val_main_v77_apply, val_main_v76_apply, val_main_v75_apply, e]
  generalize val_main_v71 (F := Ideal) x y (ValueIdx.ix5 b n h q k) = u
  generalize val_main_v74 (F := Ideal) x y (ValueIdx.ix4 b n h q) = m
  rfl

/-- A weight: the exponential over the sum of its row's. -/
theorem weight_apply (b : Fin 4) (n : Fin 32) (h : Fin 16) (q : Fin 64) (k : Fin 576) :
    val_main_v82 (F := Ideal) x y (ValueIdx.ix5 b n h q k)
      = Ideal.div (val_main_v78 (F := Ideal) x y (ValueIdx.ix5 b n h q k))
          (∑ k : Fin 576, val_main_v78 (F := Ideal) x y (ValueIdx.ix5 b n h q k)) := by
  have e : ∀ k' : Fin 576, idx_main_v79 (idx_main_v80 (idx_main_v81 (ValueIdx.ix5 b n h q k))) k' = ValueIdx.ix5 b n h q k' := by
    intro k'
    funext a
    match a with
    | ⟨0, _⟩ => rfl
    | ⟨1, _⟩ => rfl
    | ⟨2, _⟩ => rfl
    | ⟨3, _⟩ => rfl
    | ⟨4, _⟩ => rfl
  have hz : val_main_cst_17 (F := Ideal) (Shape.Idx.first h_S_) = 0 := (val_main_cst_17_apply _).trans Ideal.ofBits_zero_f32
  rw [val_main_v82_apply, val_main_v81_apply, val_main_v80_apply, val_main_v79_apply, hz]
  simp only [e]
  generalize val_main_v78 (F := Ideal) x y = f
  refine congrArg (Ideal.div _) ?_
  exact zero_add (M := EReal) _

variable (hx : ∀ r c, c < 4096 → Softmax.IsReal (ent x r c)) (hy : ∀ h p, Softmax.IsReal (biasOf y h p))
include hx hy

/-- The reference's sum of weighted values is the attention. -/
theorem sum_apply (b : Fin 4) (n : Fin 32) (h : Fin 16) (d : Fin 128) (q : Fin 64) :
    val_main_v83 (F := Ideal) x y (ValueIdx.ix5 b n h d q) = attention x y b.val h.val (64 * n.val + q.val) d.val := by
  have hq := q.isLt
  have el : ∀ k : Fin 576, lidx_main_v83 (ValueIdx.ix5 b n h d q) k = ValueIdx.ix5 b n k h d := by
    intro k
    funext a
    match a with
    | ⟨0, _⟩ => rfl
    | ⟨1, _⟩ => rfl
    | ⟨2, _⟩ => rfl
    | ⟨3, _⟩ => rfl
    | ⟨4, _⟩ => rfl
  have er : ∀ k : Fin 576, ridx_main_v83 (ValueIdx.ix5 b n h d q) k = ValueIdx.ix5 b n h q k := by
    intro k
    funext a
    match a with
    | ⟨0, _⟩ => rfl
    | ⟨1, _⟩ => rfl
    | ⟨2, _⟩ => rfl
    | ⟨3, _⟩ => rfl
    | ⟨4, _⟩ => rfl
  rw [val_main_v83_apply]
  simp only [el, er]
  refine (Softmax.weights_named 576 (64 * n.val) (fun k => score_apply x y b n h q k) (fun k => value_apply x b n k h d)
    (max_apply x y b n h q) (fun k => exp_apply x y b n h q k) (fun k => weight_apply x y b n h q k)).trans ?_
  refine Softmax.average_weights (U := keys (64 * n.val + q.val)) (fun p hp => ?_) (fun p _ hp => score_not_mem x y hp)
    (keys_nonempty _) (fun p hp => score_isReal x y hx hy h.isLt hp) _
  rw [mem_keys] at hp
  rw [Finset.mem_Ico]
  omega

/-- The reference's result at an index is the attention. -/
theorem result_apply (i : S4x2048x2048.Idx) : val_main_v85 (F := Ideal) x y i
    = attention x y (i 0).val ((i 2).val / 128) (i 1).val ((i 2).val % 128) := by
  have h0 : (i 0).val < 4 := (i 0).isLt
  have h1 : (i 1).val < 2048 := (i 1).isLt
  have h2 : (i 2).val < 2048 := (i 2).isLt
  rw [val_main_v85_apply, val_main_v84_apply]
  have e : idx_main_v84 (idx_main_v85 i) = ValueIdx.ix5 (⟨(i 0).val, h0⟩ : Fin 4) (⟨(i 1).val / 64, by omega⟩ : Fin 32)
      (⟨(i 2).val / 128, by omega⟩ : Fin 16) (⟨(i 2).val % 128, by omega⟩ : Fin 128) (⟨(i 1).val % 64, by omega⟩ : Fin 64) := by
    funext a
    match a with
    | ⟨0, _⟩ => exact Fin.ext (by show (((i 0).val * 2048 + (i 1).val) * 2048 + (i 2).val) / 4194304 = (i 0).val; omega)
    | ⟨1, _⟩ => exact Fin.ext (by show (((i 0).val * 2048 + (i 1).val) * 2048 + (i 2).val) / 131072 % 32 = (i 1).val / 64; omega)
    | ⟨2, _⟩ => exact Fin.ext (by show (((i 0).val * 2048 + (i 1).val) * 2048 + (i 2).val) / 128 % 16 = (i 2).val / 128; omega)
    | ⟨3, _⟩ => exact Fin.ext (by show (((i 0).val * 2048 + (i 1).val) * 2048 + (i 2).val) % 128 = (i 2).val % 128; omega)
    | ⟨4, _⟩ => exact Fin.ext (by show (((i 0).val * 2048 + (i 1).val) * 2048 + (i 2).val) / 2048 % 64 = (i 1).val % 64; omega)
  have et : 64 * ((i 1).val / 64) + (i 1).val % 64 = (i 1).val := by omega
  rw [e, sum_apply x y hx hy]
  show attention x y (i 0).val ((i 2).val / 128) (64 * ((i 1).val / 64) + (i 1).val % 64) ((i 2).val % 128) = _
  rw [et]

end Cert.ReferenceIdeal.Attend

end
-- ==== Proof.Attend.lean ====
/-
  The claims about the attention: the precondition in words, the reference's frame, and the equality of the launch with
  its reference.
-/
module

public import proofs.«01_k».proof.Defs
public import proofs.«01_k».proof.Proof.Windows
public import proofs.«01_k».proof.Proof.Reference
public import Idealize.ShloMosaic.Lib.Quiescent

@[expose] public section

set_option maxRecDepth 16384

noncomputable section

namespace Cert.Proof.Attend

open Idealize.ShloMosaic Idealize.SL.Sem Cert.Scores

/-- The side conditions of the precondition's text. -/
theorem pre_facts : Cert.Pre_finite.Facts where
  slices_S8192x6144_S8192x4096_0_0 := by decide
  bitsLt_bf16_f32 := by decide
  bcast_S_S8192x4096 := by decide
  bcast_S_S16x513 := by decide

/-- The word of the bound is +∞. -/
theorem ofBits_top : Ideal.ofBits .f32 0x7F800000#32 = ⊤ := by
  simp [Ideal.ofBits, Ideal.ieee]

theorem lt_of_word {u v : EReal} (h : BitVec.ofBool (decide (u < v)) = 1#1) : u < v := by
  by_contra hn
  simp [hn] at h

section Precondition

variable [Cert.Pre_finite.Facts] (x : Rows) (y : Biases)

/-- The precondition: the queries and the keys are real numbers. -/
theorem rows_isReal (h : (Cert.Pre_finite.fn (F := Ideal) x y).1 = fun _ => 1#1) (r c : ℕ) (hc : c < 4096) :
    Softmax.IsReal (ent x r c) := by
  have e := congrFun h (ValueIdx.ix2 (Fin.ofNat 8192 r) (⟨c, hc⟩ : Fin 4096))
  have e' : max (ent x r c) (-ent x r c) < Ideal.ofBits .f32 0x7F800000#32 := by
    have ex : extractStridedSlice Cert.Pre_finite.S8192x4096 ![0, 0] x Cert.Pre_finite.Facts.slices_S8192x6144_S8192x4096_0_0
        (ValueIdx.ix2 (Fin.ofNat 8192 r) (⟨c, hc⟩ : Fin 4096)) = ent x r c := by
      refine extractStridedSlice_apply _ _ _ _ (ValueIdx.ix2 (Fin.ofNat 8192 r) (Fin.ofNat 6144 c)) fun a => ?_
      match a with
      | ⟨0, _⟩ => exact (Nat.zero_add _).symm
      | ⟨1, _⟩ => exact (Nat.mod_eq_of_lt (by omega)).trans (Nat.zero_add _).symm
    rw [← ex]
    exact lt_of_word e
  rw [ofBits_top] at e'
  exact Softmax.isReal_of_abs_lt e'

/-- The precondition: the biases are real numbers. -/
theorem biases_isReal (h : (Cert.Pre_finite.fn (F := Ideal) x y).2 = fun _ => 1#1) (a p : ℕ) : Softmax.IsReal (biasOf y a p) := by
  have e := congrFun h (ValueIdx.ix2 (Fin.ofNat 16 a) (Fin.ofNat 513 p))
  have e' : max (biasOf y a p) (-biasOf y a p) < Ideal.ofBits .f32 0x7F800000#32 := lt_of_word e
  rw [ofBits_top] at e'
  exact Softmax.isReal_of_abs_lt e'

end Precondition

/-- The attention's reference ends, leaves its arguments unchanged, and has no semaphore. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- The attention: where the queries, the keys and the biases are real numbers, launch and reference leave the same array. -/
theorem algebraic [Cert.Pre_finite.Facts] : Cert.algebraic_KernelIdeal_ReferenceIdeal_pre_finite := by
  intro m ρ m' ρ' hpre hagree
  refine ⟨fun c => Cert.KernelIdeal.Attend.attended (Cert.KernelIdeal.Attend.xs m c) (Cert.KernelIdeal.Attend.ys m c),
    Cert.KernelIdeal.Attend.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v85_eq _ _).trans ?_
  rw [(hagree c).1, (hagree c).2]
  funext i
  exact Cert.ReferenceIdeal.Attend.result_apply _ _ (rows_isReal _ _ (hpre c).1) (biases_isReal _ _ (hpre c).2) i

end Cert.Proof.Attend

end
-- ==== Proof.lean ====
/-
  The certificate: every program's frame, and each launch's equality with its reference.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.InA.Frame
public import proofs.«01_k».proof.Proof.Gen.InC.Frame
public import proofs.«01_k».proof.Proof.Gen.Out.Frame
public import proofs.«01_k».proof.Proof.Gen.PeerQ.Frame
public import proofs.«01_k».proof.Proof.Gen.NormIn.Frame
public import proofs.«01_k».proof.Proof.Gen.NormAtt.Frame
public import proofs.«01_k».proof.Proof.Gen.NormNext.Frame
public import proofs.«01_k».proof.Proof.Gen.NormFinal.Frame
public import proofs.«01_k».proof.Proof.Gen.S5Post.Frame
public import proofs.«01_k».proof.Proof.Gen.InAIdeal.Value
public import proofs.«01_k».proof.Proof.Gen.InCIdeal.Value
public import proofs.«01_k».proof.Proof.Gen.OutIdeal.Value
public import proofs.«01_k».proof.Proof.Gen.PeerQIdeal.Value
public import proofs.«01_k».proof.Proof.Gen.ReferenceIdeal.Run
public import proofs.«01_k».proof.Proof.Gen.ReferenceIdeal.Read
public import proofs.«01_k».proof.Proof.Gen.RefInAIdeal.Run
public import proofs.«01_k».proof.Proof.Gen.RefInAIdeal.Read
public import proofs.«01_k».proof.Proof.Gen.RefInCIdeal.Run
public import proofs.«01_k».proof.Proof.Gen.RefInCIdeal.Read
public import proofs.«01_k».proof.Proof.Gen.RefOutIdeal.Run
public import proofs.«01_k».proof.Proof.Gen.RefOutIdeal.Read
public import proofs.«01_k».proof.Proof.Gen.RefPeerQIdeal.Run
public import proofs.«01_k».proof.Proof.Gen.RefPeerQIdeal.Read
public import proofs.«01_k».proof.Proof.Gen.NormInIdeal.Value
public import proofs.«01_k».proof.Proof.Gen.NormAttIdeal.Value
public import proofs.«01_k».proof.Proof.Gen.NormNextIdeal.Value
public import proofs.«01_k».proof.Proof.Gen.NormFinalIdeal.Value
public import proofs.«01_k».proof.Proof.Gen.S5PostIdeal.Value
public import proofs.«01_k».proof.Proof.Gen.RefNormInIdeal.Run
public import proofs.«01_k».proof.Proof.Gen.RefNormInIdeal.Read
public import proofs.«01_k».proof.Proof.Gen.RefNormAttIdeal.Run
public import proofs.«01_k».proof.Proof.Gen.RefNormAttIdeal.Read
public import proofs.«01_k».proof.Proof.Gen.RefNormNextIdeal.Run
public import proofs.«01_k».proof.Proof.Gen.RefNormNextIdeal.Read
public import proofs.«01_k».proof.Proof.Gen.RefNormFinalIdeal.Run
public import proofs.«01_k».proof.Proof.Gen.RefNormFinalIdeal.Read
public import proofs.«01_k».proof.Proof.Gen.RefS5PostIdeal.Run
public import proofs.«01_k».proof.Proof.Gen.RefS5PostIdeal.Read
public import proofs.«01_k».proof.Proof.Products
public import proofs.«01_k».proof.Proof.Norms
public import proofs.«01_k».proof.Proof.Attend

@[expose] public section

noncomputable section

namespace Cert.Proof

open Idealize.ShloMosaic Idealize.SL.Sem

/-- All the claims. -/
theorem claim : Cert.Claim :=
  ⟨Cert.Kernel.Gen.facts, Cert.KernelIdeal.Gen.facts, Cert.ReferenceIdeal.Gen.facts, Cert.InA.Gen.facts,
    Cert.InAIdeal.Gen.facts, Cert.RefInAIdeal.Gen.facts, Cert.InC.Gen.facts, Cert.InCIdeal.Gen.facts,
    Cert.RefInCIdeal.Gen.facts, Cert.Out.Gen.facts, Cert.OutIdeal.Gen.facts, Cert.RefOutIdeal.Gen.facts,
    Cert.PeerQ.Gen.facts, Cert.PeerQIdeal.Gen.facts, Cert.RefPeerQIdeal.Gen.facts,
    Cert.NormIn.Gen.facts, Cert.NormInIdeal.Gen.facts, Cert.RefNormInIdeal.Gen.facts,
    Cert.NormAtt.Gen.facts, Cert.NormAttIdeal.Gen.facts, Cert.RefNormAttIdeal.Gen.facts,
    Cert.NormNext.Gen.facts, Cert.NormNextIdeal.Gen.facts, Cert.RefNormNextIdeal.Gen.facts,
    Cert.NormFinal.Gen.facts, Cert.NormFinalIdeal.Gen.facts, Cert.RefNormFinalIdeal.Gen.facts,
    Cert.S5Post.Gen.facts, Cert.S5PostIdeal.Gen.facts, Cert.RefS5PostIdeal.Gen.facts,
    Attend.pre_facts,
    fun m ρ _ => Cert.Kernel.Gen.frame m ρ,
    fun m ρ _ => Cert.KernelIdeal.Gen.frame m ρ,
    fun m ρ _ => Cert.KernelIdeal.Gen.frame m ρ,
    Attend.frame_reference,
    fun m ρ _ => Attend.frame_reference m ρ trivial,
    fun m ρ _ => Cert.InA.Gen.frame m ρ,
    fun m ρ _ => Cert.InAIdeal.Gen.frame m ρ,
    Products.frame_ref_InA,
    fun m ρ _ => Cert.InC.Gen.frame m ρ,
    fun m ρ _ => Cert.InCIdeal.Gen.frame m ρ,
    Products.frame_ref_InC,
    fun m ρ _ => Cert.Out.Gen.frame m ρ,
    fun m ρ _ => Cert.OutIdeal.Gen.frame m ρ,
    Products.frame_ref_Out,
    fun m ρ _ => Cert.PeerQ.Gen.frame m ρ,
    fun m ρ _ => Cert.PeerQIdeal.Gen.frame m ρ,
    Products.frame_ref_PeerQ,
    fun m ρ _ => Cert.NormIn.Gen.frame m ρ,
    fun m ρ _ => Cert.NormInIdeal.Gen.frame m ρ,
    Norms.frame_ref_NormIn,
    fun m ρ _ => Cert.NormAtt.Gen.frame m ρ,
    fun m ρ _ => Cert.NormAttIdeal.Gen.frame m ρ,
    Norms.frame_ref_NormAtt,
    fun m ρ _ => Cert.NormNext.Gen.frame m ρ,
    fun m ρ _ => Cert.NormNextIdeal.Gen.frame m ρ,
    Norms.frame_ref_NormNext,
    fun m ρ _ => Cert.NormFinal.Gen.frame m ρ,
    fun m ρ _ => Cert.NormFinalIdeal.Gen.frame m ρ,
    Norms.frame_ref_NormFinal,
    fun m ρ _ => Cert.S5Post.Gen.frame m ρ,
    fun m ρ _ => Cert.S5PostIdeal.Gen.frame m ρ,
    Norms.frame_ref_S5Post,
    trivial,
    @Attend.algebraic Attend.pre_facts,
    trivial, Products.algebraic_InA,
    trivial, Products.algebraic_InC,
    trivial, Products.algebraic_Out,
    trivial, Products.algebraic_PeerQ,
    trivial, Norms.algebraic_NormIn,
    trivial, Norms.algebraic_NormAtt,
    trivial, Norms.algebraic_NormNext,
    trivial, Norms.algebraic_NormFinal,
    trivial, Norms.algebraic_S5Post⟩

end Cert.Proof

end
